-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x28x14x14 : Shape := ⟨4, ![8192, 28, 14, 14]⟩
abbrev S8192x14x14x14 : Shape := ⟨4, ![8192, 14, 14, 14]⟩
abbrev S8192x14x2 : Shape := ⟨3, ![8192, 14, 2]⟩
abbrev S32x28 : Shape := ⟨2, ![32, 28]⟩
abbrev S14x14x14x8192 : Shape := ⟨4, ![14, 14, 14, 8192]⟩
abbrev S196x14x8192 : Shape := ⟨3, ![196, 14, 8192]⟩
abbrev S14x2x8192 : Shape := ⟨3, ![14, 2, 8192]⟩
abbrev S2x1x4096 : Shape := ⟨3, ![2, 1, 4096]⟩
abbrev S14x2x4096 : Shape := ⟨3, ![14, 2, 4096]⟩
abbrev S28x14x4096 : Shape := ⟨3, ![28, 14, 4096]⟩
abbrev S1x1x4096 : Shape := ⟨3, ![1, 1, 4096]⟩
abbrev S1x4096 : Shape := ⟨2, ![1, 4096]⟩
abbrev S28x4096 : Shape := ⟨2, ![28, 4096]⟩
abbrev S32x4096 : Shape := ⟨2, ![32, 4096]⟩
abbrev S14x4096 : Shape := ⟨2, ![14, 4096]⟩
abbrev S14x1x4096 : Shape := ⟨3, ![14, 1, 4096]⟩
abbrev S1x14x4096 : Shape := ⟨3, ![1, 14, 4096]⟩
abbrev S14x14x4096 : Shape := ⟨3, ![14, 14, 4096]⟩
abbrev S13x14x4096 : Shape := ⟨3, ![13, 14, 4096]⟩
abbrev S4096 : Shape := ⟨1, ![4096]⟩
abbrev S_ : Shape := ⟨0, ![]⟩

abbrev nBuf : Space → Nat
  | .hbm => 19
  | .vmem => 13
  | .smem => 0
  | _ => 0

abbrev bufTy : (tb : Table) → Fin (tcTables nBuf tb) → BufTy
  | .hbm, ⟨0, _⟩ => ⟨S8192x28x14x14, .f32⟩
  | .hbm, ⟨1, _⟩ => ⟨S8192x14x14x14, .f32⟩
  | .hbm, ⟨2, _⟩ => ⟨S8192x14x2, .f32⟩
  | .hbm, ⟨3, _⟩ => ⟨S8192x14x2, .i32⟩
  | .hbm, ⟨4, _⟩ => ⟨S32x28, .f32⟩
  | .hbm, ⟨5, _⟩ => ⟨S14x14x14x8192, .f32⟩
  | .hbm, ⟨6, _⟩ => ⟨S196x14x8192, .f32⟩
  | .hbm, ⟨7, _⟩ => ⟨S14x2x8192, .f32⟩
  | .hbm, ⟨8, _⟩ => ⟨S14x2x8192, .i32⟩
  | .hbm, ⟨9, _⟩ => ⟨S196x14x8192, .f32⟩
  | .hbm, ⟨10, _⟩ => ⟨S2x1x4096, .f32⟩
  | .hbm, ⟨11, _⟩ => ⟨S2x1x4096, .f32⟩
  | .hbm, ⟨12, _⟩ => ⟨S14x14x14x8192, .f32⟩
  | .hbm, ⟨13, _⟩ => ⟨S8192x14x14x14, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S14x2x4096, .f32⟩
  | .local _ .vmem, ⟨1, _⟩ => ⟨S14x2x4096, .f32⟩
  | .local _ .vmem, ⟨2, _⟩ => ⟨S14x2x4096, .i32⟩
  | .local _ .vmem, ⟨3, _⟩ => ⟨S14x2x4096, .i32⟩
  | .local _ .vmem, ⟨4, _⟩ => ⟨S28x14x4096, .f32⟩
  | .local _ .vmem, ⟨5, _⟩ => ⟨S28x14x4096, .f32⟩
  | .local _ .vmem, ⟨6, _⟩ => ⟨S32x28, .f32⟩
  | .local _ .vmem, ⟨7, _⟩ => ⟨S28x14x4096, .f32⟩
  | .local _ .vmem, ⟨8, _⟩ => ⟨S28x14x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | _, _ => ⟨S8192x28x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 7], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  let c0 : Index := 0#32
  let c0_0 : Index := 0#32
  ![v2.toNat, 0, 0]
def k0_off2 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v5 : Index := Scalar.indexCast v1
  let c1 : Index := 1#32
  let c0_1 : Index := 0#32
  ![v5.toNat, 1, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S14x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S14x2x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S28x14x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S28x14x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x28x14x14 : Shape := ⟨4, ![8192, 28, 14, 14]⟩
abbrev S8192x14x14x14 : Shape := ⟨4, ![8192, 14, 14, 14]⟩
abbrev S8192x14x2 : Shape := ⟨3, ![8192, 14, 2]⟩
abbrev S14x14 : Shape := ⟨2, ![14, 14]⟩
abbrev S_ : Shape := ⟨0, ![]⟩
abbrev S8192x14x1 : Shape := ⟨3, ![8192, 14, 1]⟩
abbrev S8192x14 : Shape := ⟨2, ![8192, 14]⟩
abbrev S14 : Shape := ⟨1, ![14]⟩
abbrev S1x1x14 : Shape := ⟨3, ![1, 1, 14]⟩
abbrev S8192x14x14 : Shape := ⟨3, ![8192, 14, 14]⟩
abbrev S8192x14x1x1 : Shape := ⟨4, ![8192, 14, 1, 1]⟩
abbrev S8192x14x14x1 : Shape := ⟨4, ![8192, 14, 14, 1]⟩
abbrev S8192x14x1x14 : Shape := ⟨4, ![8192, 14, 1, 14]⟩
abbrev S14x1 : Shape := ⟨2, ![14, 1]⟩
abbrev S1x1x14x1 : Shape := ⟨4, ![1, 1, 14, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x28x14x14, .f32⟩
  | .hbm, ⟨1, _⟩ => ⟨S8192x14x14x14, .f32⟩
  | .hbm, ⟨2, _⟩ => ⟨S8192x14x2, .f32⟩
  | .hbm, ⟨3, _⟩ => ⟨S8192x14x2, .i32⟩
  | .hbm, ⟨4, _⟩ => ⟨S14x14, .f32⟩
  | .hbm, ⟨5, _⟩ => ⟨S_, .f32⟩
  | .hbm, ⟨6, _⟩ => ⟨S8192x14x2, .f32⟩
  | .hbm, ⟨7, _⟩ => ⟨S8192x14x2, .f32⟩
  | .hbm, ⟨8, _⟩ => ⟨S_, .f32⟩
  | .hbm, ⟨9, _⟩ => ⟨S8192x14x2, .f32⟩
  | .hbm, ⟨10, _⟩ => ⟨S8192x14x2, .i1⟩
  | .hbm, ⟨11, _⟩ => ⟨S8192x14x2, .f32⟩
  | .hbm, ⟨12, _⟩ => ⟨S8192x14x2, .f32⟩
  | .hbm, ⟨13, _⟩ => ⟨S8192x14x2, .f32⟩
  | .hbm, ⟨14, _⟩ => ⟨S8192x14x2, .i32⟩
  | .hbm, ⟨15, _⟩ => ⟨S8192x14x1, .i32⟩
  | .hbm, ⟨16, _⟩ => ⟨S8192x14, .i32⟩
  | .hbm, ⟨17, _⟩ => ⟨S8192x14x1, .i32⟩
  | .hbm, ⟨18, _⟩ => ⟨S8192x14, .i32⟩
  | .hbm, ⟨19, _⟩ => ⟨S_, .i32⟩
  | .hbm, ⟨20, _⟩ => ⟨S8192x14, .i32⟩
  | .hbm, ⟨21, _⟩ => ⟨S8192x14, .i1⟩
  | .hbm, ⟨22, _⟩ => ⟨S_, .i32⟩
  | .hbm, ⟨23, _⟩ => ⟨S8192x14, .i32⟩
  | .hbm, ⟨24, _⟩ => ⟨S8192x14, .i1⟩
  | .hbm, ⟨25, _⟩ => ⟨S8192x14, .i1⟩
  | .hbm, ⟨26, _⟩ => ⟨S_, .i32⟩
  | .hbm, ⟨27, _⟩ => ⟨S8192x14, .i32⟩
  | .hbm, ⟨28, _⟩ => ⟨S8192x14, .i1⟩
  | .hbm, ⟨29, _⟩ => ⟨S8192x14, .i1⟩
  | .hbm, ⟨30, _⟩ => ⟨S_, .i32⟩
  | .hbm, ⟨31, _⟩ => ⟨S8192x14, .i32⟩
  | .hbm, ⟨32, _⟩ => ⟨S8192x14, .i1⟩
  | .hbm, ⟨33, _⟩ => ⟨S8192x14, .i1⟩
  | .hbm, ⟨34, _⟩ => ⟨S8192x14x1, .i32⟩
  | .hbm, ⟨35, _⟩ => ⟨S8192x14, .i32⟩
  | .hbm, ⟨36, _⟩ => ⟨S_, .i32⟩
  | .hbm, ⟨37, _⟩ => ⟨S8192x14, .i32⟩
  | .hbm, ⟨38, _⟩ => ⟨S8192x14, .i1⟩
  | .hbm, ⟨39, _⟩ => ⟨S8192x14, .i1⟩
  | .hbm, ⟨40, _⟩ => ⟨S14, .i32⟩
  | .hbm, ⟨41, _⟩ => ⟨S1x1x14, .i32⟩
  | .hbm, ⟨42, _⟩ => ⟨S8192x14x1, .i32⟩
  | .hbm, ⟨43, _⟩ => ⟨S8192x14x14, .i32⟩
  | .hbm, ⟨44, _⟩ => ⟨S8192x14x14, .i32⟩
  | .hbm, ⟨45, _⟩ => ⟨S8192x14x14, .i1⟩
  | .hbm, ⟨46, _⟩ => ⟨S8192x14x14, .f32⟩
  | .hbm, ⟨47, _⟩ => ⟨S1x1x14, .i32⟩
  | .hbm, ⟨48, _⟩ => ⟨S8192x14x1, .i32⟩
  | .hbm, ⟨49, _⟩ => ⟨S8192x14x14, .i32⟩
  | .hbm, ⟨50, _⟩ => ⟨S8192x14x14, .i32⟩
  | .hbm, ⟨51, _⟩ => ⟨S8192x14x14, .i1⟩
  | .hbm, ⟨52, _⟩ => ⟨S8192x14x14, .f32⟩
  | .hbm, ⟨53, _⟩ => ⟨S8192x14x1x1, .i1⟩
  | .hbm, ⟨54, _⟩ => ⟨S8192x14x1x1, .f32⟩
  | .hbm, ⟨55, _⟩ => ⟨S8192x14x14x1, .f32⟩
  | .hbm, ⟨56, _⟩ => ⟨S8192x14x14x1, .f32⟩
  | .hbm, ⟨57, _⟩ => ⟨S8192x14x14x1, .f32⟩
  | .hbm, ⟨58, _⟩ => ⟨S8192x14x1x14, .f32⟩
  | .hbm, ⟨59, _⟩ => ⟨S8192x14x14x14, .f32⟩
  | .hbm, ⟨60, _⟩ => ⟨S8192x14x14x14, .f32⟩
  | .hbm, ⟨61, _⟩ => ⟨S8192x14x14x14, .f32⟩
  | .hbm, ⟨62, _⟩ => ⟨S8192x14x14x14, .f32⟩
  | .hbm, ⟨63, _⟩ => ⟨S8192x14x14x14, .f32⟩
  | .hbm, ⟨64, _⟩ => ⟨S_, .f32⟩
  | .hbm, ⟨65, _⟩ => ⟨S8192x14, .f32⟩
  | .hbm, ⟨66, _⟩ => ⟨S8192x14x1x1, .f32⟩
  | .hbm, ⟨67, _⟩ => ⟨S_, .f32⟩
  | .hbm, ⟨68, _⟩ => ⟨S8192x14, .f32⟩
  | .hbm, ⟨69, _⟩ => ⟨S8192x14x1x1, .f32⟩
  | .hbm, ⟨70, _⟩ => ⟨S8192x14x1x1, .f32⟩
  | .hbm, ⟨71, _⟩ => ⟨S_, .f32⟩
  | .hbm, ⟨72, _⟩ => ⟨S8192x14x1x1, .f32⟩
  | .hbm, ⟨73, _⟩ => ⟨S8192x14x1x1, .f32⟩
  | .hbm, ⟨74, _⟩ => ⟨S8192x14x1x1, .i1⟩
  | .hbm, ⟨75, _⟩ => ⟨S8192x14x14x14, .f32⟩
  | .hbm, ⟨76, _⟩ => ⟨S8192x14x14x14, .f32⟩
  | .hbm, ⟨77, _⟩ => ⟨S8192x14x14x14, .f32⟩
  | .hbm, ⟨78, _⟩ => ⟨S8192x14x14x14, .f32⟩
  | .hbm, ⟨79, _⟩ => ⟨S_, .f32⟩
  | .hbm, ⟨80, _⟩ => ⟨S_, .f32⟩
  | .hbm, ⟨81, _⟩ => ⟨S8192x14x14x14, .i1⟩
  | .hbm, ⟨82, _⟩ => ⟨S8192x14x14x14, .f32⟩
  | .hbm, ⟨83, _⟩ => ⟨S8192x14x14x14, .f32⟩
  | .hbm, ⟨84, _⟩ => ⟨S8192x14x14x14, .f32⟩
  | .hbm, ⟨85, _⟩ => ⟨S8192x14, .i1⟩
  | .hbm, ⟨86, _⟩ => ⟨S8192x14x1x1, .i1⟩
  | .hbm, ⟨87, _⟩ => ⟨S14, .i32⟩
  | .hbm, ⟨88, _⟩ => ⟨S14x1, .i32⟩
  | .hbm, ⟨89, _⟩ => ⟨S_, .i32⟩
  | .hbm, ⟨90, _⟩ => ⟨S14x1, .i32⟩
  | .hbm, ⟨91, _⟩ => ⟨S14x1, .i1⟩
  | .hbm, ⟨92, _⟩ => ⟨S1x1x14x1, .i1⟩
  | .hbm, ⟨93, _⟩ => ⟨S8192x14x14x1, .i1⟩
  | .hbm, ⟨94, _⟩ => ⟨S8192x14x14x1, .i1⟩
  | .hbm, ⟨95, _⟩ => ⟨S8192x14x14x1, .i1⟩
  | .hbm, ⟨96, _⟩ => ⟨S_, .f32⟩
  | .hbm, ⟨97, _⟩ => ⟨S_, .f32⟩
  | .hbm, ⟨98, _⟩ => ⟨S8192x14x14x14, .i1⟩
  | .hbm, ⟨99, _⟩ => ⟨S8192x14x14x14, .f32⟩
  | .hbm, ⟨100, _⟩ => ⟨S8192x14x14x14, .f32⟩
  | .hbm, ⟨101, _⟩ => ⟨S8192x14, .i32⟩
  | .hbm, ⟨102, _⟩ => ⟨S_, .i32⟩
  | .hbm, ⟨103, _⟩ => ⟨S_, .i32⟩
  | .hbm, ⟨104, _⟩ => ⟨S_, .f32⟩
  | .hbm, ⟨105, _⟩ => ⟨S8192x14x14x14, .f32⟩
  | .hbm, ⟨106, _⟩ => ⟨S_, .f32⟩
  | .hbm, ⟨107, _⟩ => ⟨S_, .f32⟩
  | .hbm, ⟨108, _⟩ => ⟨S_, .f32⟩
  | _, _ => ⟨S8192x28x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_10 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v72 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.RefStages.lean ====
/-
  The reference's two results, written as a short chain of named stages of its arguments: the cells the joint
  coordinates fall into, the visibility bits, the filtered map, the normalised target, the squared error. The
  two composed terms that the reference's run states unfold to the last stages.
-/
module

public import proofs.«01_k».proof.Proof.Gen.ReferenceIdeal.Run

@[expose] public section

set_option maxRecDepth 16384

noncomputable section

namespace Cert.ReferenceIdeal.Stages

open Idealize.ShloMosaic Idealize.ShloMosaic.TcCoe Idealize.SL.Sem
open Cert.ReferenceIdeal Cert.ReferenceIdeal.Gen Cert.ReferenceIdeal.Value

variable {F : FTy → Type} [FloatOps F]

/-- Fourteen times the coordinates. -/
def scaled (t : FVec F S8192x14x2 .f32) : FVec F S8192x14x2 .f32 :=
  mulf t (broadcastInDim S8192x14x2 ![] bcast_S_S8192x14x2 (constant S_ .f32 0x41600000#32))

/-- The cells: fourteen times the coordinates, cut toward zero, as words. -/
def cells (t : FVec F S8192x14x2 .f32) : IVec S8192x14x2 32 :=
  fptosi 32 (select (cmpf .olt (scaled t) (broadcastInDim S8192x14x2 ![] bcast_S_S8192x14x2 (constant S_ .f32 0x00000000#32)))
    (Host.ceil (scaled t)) (Host.floor (scaled t)))

/-- The column cells. -/
def cellX (t : FVec F S8192x14x2 .f32) : IVec S8192x14 32 :=
  shapeCast S8192x14 (extractStridedSlice S8192x14x1 ![0, 0, 0] (cells t) slices_S8192x14x2_S8192x14x1_0_0_0)
    shapeCasts_S8192x14x1_S8192x14

/-- The row cells. -/
def cellY (t : FVec F S8192x14x2 .f32) : IVec S8192x14 32 :=
  shapeCast S8192x14 (extractStridedSlice S8192x14x1 ![0, 0, 1] (cells t) slices_S8192x14x2_S8192x14x1_0_0_1)
    shapeCasts_S8192x14x1_S8192x14

/-- The visibility bits: flagged, and both cells within the map. -/
def vis (t : FVec F S8192x14x2 .f32) (v : IVec S8192x14x2 32) : IVec S8192x14 1 :=
  andi (cmpi .eq (shapeCast S8192x14 (extractStridedSlice S8192x14x1 ![0, 0, 0] v slices_S8192x14x2_S8192x14x1_0_0_0)
      shapeCasts_S8192x14x1_S8192x14) (broadcastInDim S8192x14 ![] bcast_S_S8192x14 (constantI S_ 32 1#32)))
    (andi (andi (andi
      (cmpi .sge (cellX t) (broadcastInDim S8192x14 ![] bcast_S_S8192x14 (constantI S_ 32 0#32)))
      (cmpi .sle (cellX t) (broadcastInDim S8192x14 ![] bcast_S_S8192x14 (constantI S_ 32 13#32))))
      (cmpi .sge (cellY t) (broadcastInDim S8192x14 ![] bcast_S_S8192x14 (constantI S_ 32 0#32))))
      (cmpi .sle (cellY t) (broadcastInDim S8192x14 ![] bcast_S_S8192x14 (constantI S_ 32 13#32))))

/-- A one-hot vector along the last axis: one where the position is the cell. -/
def hot (x : IVec S8192x14 32) : FVec F S8192x14x14 .f32 :=
  uitofp .f32 (cmpi .eq
    (broadcastInDim S8192x14x14 ![0, 1, 2] bcast_S1x1x14_S8192x14x14_0_1_2
      (broadcastInDim S1x1x14 ![2] bcast_S14_S1x1x14_2 (iotaInDim S14 32 0)))
    (broadcastInDim S8192x14x14 ![0, 1, 2] bcast_S8192x14x1_S8192x14x14_0_1_2
      (broadcastInDim S8192x14x1 ![0, 1] bcast_S8192x14_S8192x14x1_0_1 x)))

/-- The visibility bits under two unit axes. -/
def vis4 (t : FVec F S8192x14x2 .f32) (v : IVec S8192x14x2 32) : IVec S8192x14x1x1 1 :=
  broadcastInDim S8192x14x1x1 ![0, 1] bcast_S8192x14_S8192x14x1x1_0_1 (vis t v)

/-- The map with a single one at a visible joint's cell. -/
def delta (t : FVec F S8192x14x2 .f32) (v : IVec S8192x14x2 32) : FVec F S8192x14x14x14 .f32 :=
  mulf (broadcastInDim S8192x14x14x14 ![0, 1, 2, 3] bcast_S8192x14x14x1_S8192x14x14x14_0_1_2_3
      (mulf (broadcastInDim S8192x14x14x1 ![0, 1, 2, 3] bcast_S8192x14x1x1_S8192x14x14x1_0_1_2_3 (uitofp .f32 (vis4 t v)))
        (broadcastInDim S8192x14x14x1 ![0, 1, 2] bcast_S8192x14x14_S8192x14x14x1_0_1_2 (hot (cellY t)))))
    (broadcastInDim S8192x14x14x14 ![0, 1, 2, 3] bcast_S8192x14x1x14_S8192x14x14x14_0_1_2_3
      (broadcastInDim S8192x14x1x14 ![0, 1, 3] bcast_S8192x14x14_S8192x14x1x14_0_1_3 (hot (cellX t))))

/-- The smoothing matrix. -/
def smooth : FVec F S14x14 .f32 := fun i => FloatOps.ofBits .f32 (lit0 (S14x14.rowMajor i))

/-- The map filtered along both axes. -/
def filtered (t : FVec F S8192x14x2 .f32) (v : IVec S8192x14x2 32) : FVec F S8192x14x14x14 .f32 :=
  Host.dotGeneral dot_S8192x14x14x14_S14x14_S8192x14x14x14_2_1_013_0_n_n none
    (Host.dotGeneral dot_S8192x14x14x14_S14x14_S8192x14x14x14_2_1_013_0_n_n none (delta t v) smooth) smooth

/-- The least entry of each filtered map. -/
def least (t : FVec F S8192x14x2 .f32) (v : IVec S8192x14x2 32) : FVec F S8192x14 .f32 :=
  Host.reduce FloatOps.minimumf (filtered t v) (constant S_ .f32 0x7F800000#32) reducesTo_S8192x14x14x14_S8192x14_d2_3 h_S_

/-- The greatest entry of each filtered map. -/
def greatest (t : FVec F S8192x14x2 .f32) (v : IVec S8192x14x2 32) : FVec F S8192x14 .f32 :=
  Host.reduce FloatOps.maximumf (filtered t v) (constant S_ .f32 0xFF800000#32) reducesTo_S8192x14x14x14_S8192x14_d2_3 h_S_

/-- The normalised target: the filtered map scaled to between zero and one, zero for an invisible joint. -/
def target (t : FVec F S8192x14x2 .f32) (v : IVec S8192x14x2 32) : FVec F S8192x14x14x14 .f32 :=
  select (broadcastInDim S8192x14x14x14 ![0, 1, 2, 3] bcast_S8192x14x1x1_S8192x14x14x14_0_1_2_3 (vis4 t v))
    (Host.divf (subf (filtered t v)
        (broadcastInDim S8192x14x14x14 ![0, 1, 2, 3] bcast_S8192x14x1x1_S8192x14x14x14_0_1_2_3
          (broadcastInDim S8192x14x1x1 ![0, 1] bcast_S8192x14_S8192x14x1x1_0_1 (least t v))))
      (broadcastInDim S8192x14x14x14 ![0, 1, 2, 3] bcast_S8192x14x1x1_S8192x14x14x14_0_1_2_3
        (maximumf (subf (broadcastInDim S8192x14x1x1 ![0, 1] bcast_S8192x14_S8192x14x1x1_0_1 (greatest t v))
            (broadcastInDim S8192x14x1x1 ![0, 1] bcast_S8192x14_S8192x14x1x1_0_1 (least t v)))
          (broadcastInDim S8192x14x1x1 ![] bcast_S_S8192x14x1x1 (constant S_ .f32 0x2B8CBCCC#32)))))
    (broadcastInDim S8192x14x14x14 ![] bcast_S_S8192x14x14x14 (id (constant S_ .f32 0x00000000#32)))

/-- The error: the prediction less the target, zero on row zero of an invisible joint. -/
def error (h : FVec F S8192x14x14x14 .f32) (t : FVec F S8192x14x2 .f32) (v : IVec S8192x14x2 32) : FVec F S8192x14x14x14 .f32 :=
  select (broadcastInDim S8192x14x14x14 ![0, 1, 2, 3] bcast_S8192x14x14x1_S8192x14x14x14_0_1_2_3
      (andi (broadcastInDim S8192x14x14x1 ![0, 1, 2, 3] bcast_S8192x14x1x1_S8192x14x14x1_0_1_2_3
          (broadcastInDim S8192x14x1x1 ![0, 1] bcast_S8192x14_S8192x14x1x1_0_1 (noti (vis t v))))
        (broadcastInDim S8192x14x14x1 ![0, 1, 2, 3] bcast_S1x1x14x1_S8192x14x14x1_0_1_2_3
          (broadcastInDim S1x1x14x1 ![2, 3] bcast_S14x1_S1x1x14x1_2_3
            (cmpi .eq (broadcastInDim S14x1 ![0] bcast_S14_S14x1_0 (iotaInDim S14 32 0))
              (broadcastInDim S14x1 ![] bcast_S_S14x1 (constantI S_ 32 0#32)))))))
    (broadcastInDim S8192x14x14x14 ![] bcast_S_S8192x14x14x14 (id (constant S_ .f32 0x00000000#32)))
    (subf h (target t v))

/-- The number of visible joints. -/
def count (t : FVec F S8192x14x2 .f32) (v : IVec S8192x14x2 32) : FVec F S_ .f32 :=
  sitofp .f32 (Host.reduce IntOp.addi (extui 32 (vis t v) natLt_1_32) (constantI S_ 32 0#32) reducesTo_S8192x14_S_d0_1 h_S_)

/-- The loss: the sum of the squared errors over the number of visible joints. -/
def loss (h : FVec F S8192x14x14x14 .f32) (t : FVec F S8192x14x2 .f32) (v : IVec S8192x14x2 32) : FVec F S_ .f32 :=
  Host.divf (Host.reduceAdd (mulf (error h t v) (error h t v)) (constant S_ .f32 0x00000000#32)
    reducesTo_S8192x14x14x14_S_d0_1_2_3 h_S_) (count t v)

variable (m : (ℓ : Loc nD τ sig) → Buf (Elt F) ℓ) (c : Dev nD)

/-- The reference's target result is the last of these stages, of its arguments. -/
theorem res_target : res_out1 m c
    = target (F := F) (m ((c.tc : Thread nD τ).loc main_arg2)) (m ((c.tc : Thread nD τ).loc main_arg3)) := rfl

/-- The reference's loss result is the last of these stages, of its arguments. -/
theorem res_loss : res_out0 m c
    = loss (F := F) (m ((c.tc : Thread nD τ).loc main_arg1)) (m ((c.tc : Thread nD τ).loc main_arg2))
        (m ((c.tc : Thread nD τ).loc main_arg3)) := rfl

end Cert.ReferenceIdeal.Stages

end
-- ==== Proof.Words.lean ====
/-
  Words of finite binary32 numbers that are not negative: the real each denotes, and that the order of the words as
  natural numbers is the order of those reals.
-/
module

public import Idealize.ShloMosaic.PureOps.Ideal.Laws
public import Idealize.ShloMosaic.Lib.Pointwise
public import Idealize.ShloMosaic.Lib.TotalOrder

@[expose] public section

noncomputable section

namespace Cert.Heat

open Idealize.ShloMosaic Idealize.ShloMosaic.TotalOrder

/-- The real that the magnitude of a word denotes. -/
def wordVal (b : BitVec 32) : ℝ := (sig 23 (expo 8 23 b) (frac 23 b) : ℝ) * ulp 8 23

/-- A word stands for a number that is not negative. -/
theorem wordVal_nonneg (b : BitVec 32) : 0 ≤ wordVal b := mul_nonneg (Nat.cast_nonneg _) (ulp_pos 8 23).le

/-- Below the word of infinity no word is a not-a-number, and the exponent field is not all ones. -/
theorem expo_lt_of_finite {b : BitVec 32} (h : b.toNat < 2139095040) : expo 8 23 b < 255 := by
  rw [expo_eq]; omega

/-- A word below that of infinity is a number. -/
theorem not_isNaN_of_finite {b : BitVec 32} (h : b.toNat < 2139095040) : ¬IsNaN 8 23 b := fun e => by
  have := expo_lt_of_finite h
  have := e.1
  omega

/-- A word below that of infinity has the size it stands for. -/
theorem absVal_of_finite {b : BitVec 32} (h : b.toNat < 2139095040) : absVal 8 23 b = (wordVal b : EReal) := by
  have := expo_lt_of_finite h
  unfold absVal wordVal
  rw [if_neg (by omega)]

/-- A word below the word of infinity denotes its real. -/
theorem ofBits_word {b : BitVec 32} (h : b.toNat < 2139095040) : Ideal.ofBits .f32 b = (wordVal b : EReal) := by
  show Ideal.ieee 8 23 b = _
  have hs : sign 8 23 (b : BitVec (8 + 23 + 1)) = false := by
    rw [sign_eq_msb]
    cases hm : BitVec.msb (n := 8 + 23 + 1) b
    · rfl
    · have := (msb_iff (e := 8) (m := 23) b).1 hm
      omega
  rw [ieee_eq_signed_absVal (not_isNaN_of_finite h), absVal_of_finite h]
  exact if_neg (by rw [show sign 8 23 b = false from hs]; decide)

/-- The order of two such words is the order of their reals. -/
theorem wordVal_le {a b : BitVec 32} (ha : a.toNat < 2139095040) (hb : b.toNat < 2139095040) (h : a.toNat ≤ b.toNat) :
    wordVal a ≤ wordVal b := by
  have key := absVal_lt_absVal_iff (not_isNaN_of_finite hb) (not_isNaN_of_finite ha)
  rw [absVal_of_finite ha, absVal_of_finite hb, EReal.coe_lt_coe_iff] at key
  refine not_lt.1 fun hlt => ?_
  have := key.1 hlt
  unfold mag at this
  rw [expo_eq, expo_eq, frac_eq, frac_eq] at this
  omega

/-- A nonzero such word is a positive real. -/
theorem wordVal_pos {b : BitVec 32} (hb : b.toNat < 2139095040) (h : 0 < b.toNat) : 0 < wordVal b := by
  refine lt_of_le_of_ne (wordVal_nonneg b) fun e => ?_
  have hz := isZero_of_absVal_eq_zero (e := 8) (m := 23) (b := b) (by rw [absVal_of_finite hb, ← e]; rfl)
  unfold IsZero at hz
  rw [expo_eq, frac_eq] at hz
  omega

/-- The zero word is the real zero. -/
theorem wordVal_zero : wordVal 0#32 = 0 := by
  unfold wordVal
  rw [(sig_eq_zero_iff _ _ _).2 ⟨by decide, by decide⟩]
  simp

end Cert.Heat

end
-- ==== Proof.Spec.lean ====
/-
  The formulas of one joint, over the extended reals: the cell of a coordinate, the visibility bit, the normalised
  target as the reference computes it and as the kernel computes it, the squared error. That the two targets are
  one, given what the two constant tables hold.
-/
module

public import proofs.«01_k».proof.Proof.Words
public import Idealize.ShloMosaic.Lib.Affine
public import Idealize.ShloMosaic.Lib.Pointwise

@[expose] public section

set_option maxRecDepth 16384

noncomputable section

namespace Cert.Heat

open Idealize.ShloMosaic

/-- The cell a coordinate falls into: fourteen times it, cut toward zero, as a word. -/
def cell (x : EReal) : BitVec 32 :=
  FloatOps.fptosi (F := Ideal) (φ := .f32) 32
    (if x * Ideal.ofBits .f32 1096810496#32 < 0 then Ideal.liftRound Int.ceil (x * Ideal.ofBits .f32 1096810496#32)
      else Ideal.liftRound Int.floor (x * Ideal.ofBits .f32 1096810496#32))

/-- The visibility bit from the two cells and the flag. -/
def seen (xi yi v : BitVec 32) : BitVec 1 :=
  IntOp.andi (IntOp.cmpi .eq v 1#32)
    (IntOp.andi (IntOp.andi (IntOp.andi (IntOp.cmpi .sge xi 0#32) (IntOp.cmpi .sle xi 13#32)) (IntOp.cmpi .sge yi 0#32))
      (IntOp.cmpi .sle yi 13#32))

/-- A bit as a number, zero or one. -/
def ind (s : BitVec 1) : EReal := FloatOps.uitofp (F := Ideal) .f32 s

/-- The floor of the normalising denominator. -/
def eps : EReal := Ideal.ofBits .f32 730643660#32

/-- The filtered map of one joint, as the reference computes it with the smoothing matrix `K`. -/
def filt (K : Fin 14 → Fin 14 → EReal) (s : BitVec 1) (xi yi : BitVec 32) (p k : Fin 14) : EReal :=
  ∑ q : Fin 14, (∑ i : Fin 14, ind s * ind (IntOp.cmpi .eq (BitVec.ofNat 32 i.val) yi)
    * ind (IntOp.cmpi .eq (BitVec.ofNat 32 q.val) xi) * K p i) * K k q

/-- The least entry of a map. -/
def lowest (f : Fin 14 → Fin 14 → EReal) : EReal :=
  Finset.fold min (Ideal.ofBits .f32 2139095040#32) (fun x : Fin 14 × Fin 14 => f x.1 x.2) Finset.univ

/-- The greatest entry of a map. -/
def highest (f : Fin 14 → Fin 14 → EReal) : EReal :=
  Finset.fold max (Ideal.ofBits .f32 4286578688#32) (fun x : Fin 14 × Fin 14 => f x.1 x.2) Finset.univ

/-- The normalised target as the reference computes it. -/
def refTarget (K : Fin 14 → Fin 14 → EReal) (s : BitVec 1) (xi yi : BitVec 32) (p k : Fin 14) : EReal :=
  Scalar.select s
    (Ideal.div (filt K s xi yi p k - lowest (filt K s xi yi)) (max (highest (filt K s xi yi) - lowest (filt K s xi yi)) eps)) 0

/-- Row `r` of the kernel's table `B` at a joint's two cells: a sum of the columns that the cells select. -/
def row (B : Fin 32 → Fin 28 → EReal) (xi yi : BitVec 32) (r : Fin 32) : EReal :=
  ∑ x : Fin 28, Scalar.select (IntOp.cmpi .eq (BitVec.ofNat 32 x.val)
    (Scalar.select (IntOp.cmpi .slt (BitVec.ofNat 32 x.val) 14#32) yi (IntOp.addi xi 14#32))) (B r x) 0

/-- The least entry, a product of the two column minima. -/
def kerLow (B : Fin 32 → Fin 28 → EReal) (xi yi : BitVec 32) : EReal := row B xi yi 14 * row B xi yi 30

/-- The scale: the visibility over the denominator. -/
def kerScale (B : Fin 32 → Fin 28 → EReal) (s : BitVec 1) (xi yi : BitVec 32) : EReal :=
  Ideal.div (Scalar.select s 1 0) (max (row B xi yi 15 * row B xi yi 31 - kerLow B xi yi) eps)

/-- The normalised target as the kernel computes it with its table `B`. -/
def kerTarget (B : Fin 32 → Fin 28 → EReal) (s : BitVec 1) (xi yi : BitVec 32) (p k : Fin 14) : EReal :=
  row B xi yi ⟨p.val, by omega⟩ * kerScale B s xi yi * row B xi yi ⟨16 + k.val, by omega⟩
    - kerLow B xi yi * kerScale B s xi yi

/-- The squared error of one joint as the kernel sums it: rows one to thirteen, then row zero, which counts only where
the visibility `vf` is not zero; `D` the differences. -/
def part (vf : EReal) (D : Fin 14 → Fin 14 → EReal) : EReal :=
  (∑ p : Fin 13, ∑ k : Fin 14, D p.succ k * D p.succ k)
    + ∑ k : Fin 14, Scalar.select (Ideal.cmp .oeq vf 0) 0 (D 0 k * D 0 k)

/-- What the two tables hold: the kernel's table carries the smoothing matrix in both halves, each half with its column
minima and maxima below it, and zero elsewhere; the smoothing matrix has finite entries that are not negative. -/
structure Tables (K : Fin 14 → Fin 14 → EReal) (B : Fin 32 → Fin 28 → EReal) where
  kr : Fin 14 → Fin 14 → ℝ
  lo : Fin 14 → ℝ
  hi : Fin 14 → ℝ
  coe : ∀ p i, K p i = (kr p i : EReal)
  lo_nonneg : ∀ i, 0 ≤ lo i
  lo_le : ∀ p i, lo i ≤ kr p i
  le_hi : ∀ p i, kr p i ≤ hi i
  lo_mem : ∀ i, ∃ p, kr p i = lo i
  hi_mem : ∀ i, ∃ p, kr p i = hi i
  top_left : ∀ p i : Fin 14, B ⟨p.val, by omega⟩ ⟨i.val, by omega⟩ = (kr p i : EReal)
  top_right : ∀ (p : Fin 16) (i : Fin 14), B ⟨p.val, by omega⟩ ⟨14 + i.val, by omega⟩ = 0
  low_left : ∀ (p : Fin 16) (i : Fin 14), B ⟨16 + p.val, by omega⟩ ⟨i.val, by omega⟩ = 0
  low_right : ∀ p i : Fin 14, B ⟨16 + p.val, by omega⟩ ⟨14 + i.val, by omega⟩ = (kr p i : EReal)
  lo_left : ∀ i : Fin 14, B 14 ⟨i.val, by omega⟩ = (lo i : EReal)
  lo_right : ∀ i : Fin 14, B 30 ⟨14 + i.val, by omega⟩ = (lo i : EReal)
  hi_left : ∀ i : Fin 14, B 15 ⟨i.val, by omega⟩ = (hi i : EReal)
  hi_right : ∀ i : Fin 14, B 31 ⟨14 + i.val, by omega⟩ = (hi i : EReal)

/-- A set bit is one. -/
theorem ind_one : ind 1#1 = 1 := by
  show ((1#1 : BitVec 1).toNat : EReal) = 1
  simp

/-- A clear bit is zero. -/
theorem ind_zero : ind 0#1 = 0 := by
  show ((0#1 : BitVec 1).toNat : EReal) = 0
  simp

/-- A bit is clear or set. -/
theorem bit_cases (s : BitVec 1) : s = 0#1 ∨ s = 1#1 := by
  rcases s with ⟨⟨n, hn⟩⟩
  interval_cases n
  · exact Or.inl rfl
  · exact Or.inr rfl

/-- The comparison of two small words for equality, as a number. -/
theorem ind_eq (i b : Fin 14) : ind (IntOp.cmpi .eq (BitVec.ofNat 32 i.val) (BitVec.ofNat 32 b.val)) = if i = b then 1 else 0 := by
  by_cases h : i = b
  · subst h
    rw [if_pos rfl, show IntOp.cmpi .eq (BitVec.ofNat 32 i.val) (BitVec.ofNat 32 i.val) = 1#1 by simp [IntOp.cmpi], ind_one]
  · have : IntOp.cmpi .eq (BitVec.ofNat 32 i.val) (BitVec.ofNat 32 b.val) = 0#1 := by
      revert h; revert i b; decide
    rw [if_neg h, this, ind_zero]

/-- The positive floor of the denominator. -/
theorem eps_pos : ∃ e : ℝ, 0 < e ∧ eps = (e : EReal) := by
  exact ⟨_, wordVal_pos (by decide) (by decide), ofBits_word (b := 730643660#32) (by decide)⟩

/-- A visible joint's cells are both below fourteen. -/
theorem cells_of_seen {xi yi v : BitVec 32} (h : seen xi yi v = 1#1) :
    ∃ a b : Fin 14, xi = BitVec.ofNat 32 a.val ∧ yi = BitVec.ofNat 32 b.val := by
  have key : ∀ w : BitVec 32, IntOp.cmpi .sge w 0#32 = 1#1 → IntOp.cmpi .sle w 13#32 = 1#1 →
      ∃ a : Fin 14, w = BitVec.ofNat 32 a.val := by
    intro w h0 h1
    have e0 : (0#32).sle w = true := by
      cases e : (0#32).sle w
      · simp [IntOp.cmpi, e] at h0
      · rfl
    have e1 : w.sle 13#32 = true := by
      cases e : w.sle 13#32
      · simp [IntOp.cmpi, e] at h1
      · rfl
    rw [BitVec.sle_iff_toInt_le] at e0 e1
    have t0 : (0#32).toInt = 0 := by decide
    have t1 : (13#32).toInt = 13 := by decide
    rw [t0] at e0
    rw [t1] at e1
    have hw := BitVec.toInt_eq_toNat_cond w
    have hl := w.isLt
    refine ⟨⟨w.toNat, by split at hw <;> omega⟩, ?_⟩
    simp
  unfold seen at h
  obtain ⟨-, h⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  obtain ⟨a, ha⟩ := key xi h1 h2
  obtain ⟨b, hb⟩ := key yi h3 h4
  exact ⟨a, b, ha, hb⟩

/-- The filtered map of a visible joint is the product of two columns of the smoothing matrix. -/
theorem filt_seen (K : Fin 14 → Fin 14 → EReal) (a b p k : Fin 14) :
    filt K 1#1 (BitVec.ofNat 32 a.val) (BitVec.ofNat 32 b.val) p k = K p b * K k a := by
  unfold filt
  rw [Finset.sum_eq_single a, Finset.sum_eq_single b]
  · rw [ind_eq, ind_eq, if_pos rfl, if_pos rfl, ind_one, one_mul, one_mul, one_mul]
  · intro i _ h
    rw [ind_eq, if_neg h, mul_zero, zero_mul, zero_mul]
  · intro h; exact absurd (Finset.mem_univ _) h
  · intro q _ h
    rw [Finset.sum_eq_zero, zero_mul]
    intro i _
    rw [ind_eq q, if_neg h, mul_zero, zero_mul]
  · intro h; exact absurd (Finset.mem_univ _) h

/-- The column that a term of `row` selects, in the left half: the row cell's. -/
theorem sel_left (x : Fin 28) (a b : Fin 14) (hx : x.val < 14) (z : EReal) :
    Scalar.select (IntOp.cmpi .eq (BitVec.ofNat 32 x.val) (Scalar.select (IntOp.cmpi .slt (BitVec.ofNat 32 x.val) 14#32)
      (BitVec.ofNat 32 b.val) (IntOp.addi (BitVec.ofNat 32 a.val) 14#32))) z 0 = if x.val = b.val then z else 0 := by
  have h1 : IntOp.cmpi .slt (BitVec.ofNat 32 x.val) 14#32 = 1#1 := by revert hx; revert x; decide
  have h2 : IntOp.cmpi .eq (BitVec.ofNat 32 x.val) (BitVec.ofNat 32 b.val) = if x.val = b.val then 1#1 else 0#1 := by
    clear hx h1; revert x b; decide
  rw [h1, show Scalar.select 1#1 (BitVec.ofNat 32 b.val) (IntOp.addi (BitVec.ofNat 32 a.val) 14#32) = BitVec.ofNat 32 b.val from rfl, h2]
  split <;> rfl

/-- The column that a term of `row` selects, in the right half: the column cell's. -/
theorem sel_right (x : Fin 28) (a b : Fin 14) (hx : ¬x.val < 14) (z : EReal) :
    Scalar.select (IntOp.cmpi .eq (BitVec.ofNat 32 x.val) (Scalar.select (IntOp.cmpi .slt (BitVec.ofNat 32 x.val) 14#32)
      (BitVec.ofNat 32 b.val) (IntOp.addi (BitVec.ofNat 32 a.val) 14#32))) z 0 = if x.val = 14 + a.val then z else 0 := by
  have h1 : IntOp.cmpi .slt (BitVec.ofNat 32 x.val) 14#32 = 0#1 := by revert hx; revert x; decide
  have h2 : IntOp.cmpi .eq (BitVec.ofNat 32 x.val) (IntOp.addi (BitVec.ofNat 32 a.val) 14#32)
      = if x.val = 14 + a.val then 1#1 else 0#1 := by
    clear hx h1; revert x a; decide
  rw [h1, show Scalar.select 0#1 (BitVec.ofNat 32 b.val) (IntOp.addi (BitVec.ofNat 32 a.val) 14#32)
    = IntOp.addi (BitVec.ofNat 32 a.val) 14#32 from rfl, h2]
  split <;> rfl

/-- A row at two cells below fourteen is the sum of its two selected entries. -/
theorem row_seen (B : Fin 32 → Fin 28 → EReal) (a b : Fin 14) (r : Fin 32) :
    row B (BitVec.ofNat 32 a.val) (BitVec.ofNat 32 b.val) r = B r ⟨b.val, by omega⟩ + B r ⟨14 + a.val, by omega⟩ := by
  unfold row
  have split28 : ∀ f : Fin 28 → EReal, ∑ x, f x = ∑ i : Fin 14, f (Fin.castAdd 14 i) + ∑ i : Fin 14, f (Fin.natAdd 14 i) :=
    fun f => Fin.sum_univ_add (a := 14) (b := 14) (f : Fin (14 + 14) → EReal)
  rw [split28]
  congr 1
  · rw [Finset.sum_eq_single b]
    · rw [sel_left _ _ _ (by simp), if_pos (by simp)]; rfl
    · intro i _ h
      rw [sel_left _ _ _ (by simp), if_neg]
      intro e; exact h (Fin.ext (by simpa using e))
    · intro h; exact absurd (Finset.mem_univ _) h
  · rw [Finset.sum_eq_single a]
    · rw [sel_right _ _ _ (by simp), if_pos (by simp [Nat.add_comm])]; rfl
    · intro i _ h
      rw [sel_right _ _ _ (by simp), if_neg]
      intro e; exact h (Fin.ext (by simp only [Fin.val_natAdd] at e; omega))
    · intro h; exact absurd (Finset.mem_univ _) h

/-- The least entry of a map that has one. -/
theorem lowest_eq {f : Fin 14 → Fin 14 → EReal} {z : EReal} (h : ∀ p k, z ≤ f p k) (h' : ∃ p k, f p k = z) : lowest f = z := by
  obtain ⟨p, k, e⟩ := h'
  refine le_antisymm ?_ ?_
  · exact Finset.fold_min_le z |>.2 (Or.inr ⟨(p, k), Finset.mem_univ _, e.le⟩)
  · refine Finset.le_fold_min z |>.2 ⟨?_, fun x _ => h x.1 x.2⟩
    rw [show Ideal.ofBits .f32 2139095040#32 = ⊤ by
      show Ideal.ieee 8 23 2139095040#32 = ⊤; unfold Ideal.ieee; dsimp only; rw [if_pos (by decide), if_pos (by decide), if_neg (by decide)]]
    exact le_top

/-- The greatest entry of a map that has one. -/
theorem highest_eq {f : Fin 14 → Fin 14 → EReal} {z : EReal} (h : ∀ p k, f p k ≤ z) (h' : ∃ p k, f p k = z) : highest f = z := by
  obtain ⟨p, k, e⟩ := h'
  refine le_antisymm ?_ ?_
  · refine Finset.fold_max_le z |>.2 ⟨?_, fun x _ => h x.1 x.2⟩
    rw [show Ideal.ofBits .f32 4286578688#32 = ⊥ by
      show Ideal.ieee 8 23 4286578688#32 = ⊥; unfold Ideal.ieee; dsimp only; rw [if_pos (by decide), if_pos (by decide), if_pos (by decide)]]
    exact bot_le
  · exact Finset.le_fold_max z |>.2 (Or.inr ⟨(p, k), Finset.mem_univ _, e.ge⟩)

/-- Over finite reals, scaling by the reciprocal first and dividing last are one. -/
theorem scale_real (u w m d : ℝ) (hd : 0 < d) :
    (u : EReal) * Ideal.div 1 (d : EReal) * (w : EReal) - (m : EReal) * Ideal.div 1 (d : EReal)
      = Ideal.div ((u : EReal) * (w : EReal) - (m : EReal)) (d : EReal) := by
  have h0 : (d : EReal) ≠ 0 := by
    intro h; rw [EReal.coe_eq_zero] at h; exact hd.ne' h
  unfold Ideal.div
  rw [if_neg h0, if_neg h0, one_mul, ← EReal.coe_inv, ← EReal.coe_mul, ← EReal.coe_mul, ← EReal.coe_mul, ← EReal.coe_sub,
    ← EReal.coe_mul, ← EReal.coe_sub, ← EReal.coe_mul]
  congr 1
  ring

/-- The two computations of the normalised target agree, for any coordinates and any flag. -/
theorem target_eq {K : Fin 14 → Fin 14 → EReal} {B : Fin 32 → Fin 28 → EReal} (T : Tables K B) (xi yi v : BitVec 32)
    (p k : Fin 14) : kerTarget B (seen xi yi v) xi yi p k = refTarget K (seen xi yi v) xi yi p k := by
  obtain ⟨e, he, hee⟩ := eps_pos
  rcases bit_cases (seen xi yi v) with hs | hs
  · rw [hs]
    have hd : ∀ z : EReal, Ideal.div 0 (max z eps) = 0 := by
      intro z
      have h0 : max z eps ≠ 0 := by
        have : (0 : EReal) < max z eps := lt_max_of_lt_right (by rw [hee]; exact_mod_cast he)
        exact this.ne'
      unfold Ideal.div
      rw [if_neg h0, zero_mul]
    have hsc : kerScale B 0#1 xi yi = 0 := hd _
    unfold kerTarget
    rw [hsc, mul_zero, zero_mul, mul_zero, sub_zero]
    rfl
  · obtain ⟨a, b, rfl, rfl⟩ := cells_of_seen hs
    rw [hs]
    have hf : filt K 1#1 (BitVec.ofNat 32 a.val) (BitVec.ofNat 32 b.val) = fun p k => ((T.kr p b * T.kr k a : ℝ) : EReal) := by
      funext p k
      rw [filt_seen, T.coe, T.coe, EReal.coe_mul]
    have hlo : lowest (filt K 1#1 (BitVec.ofNat 32 a.val) (BitVec.ofNat 32 b.val)) = ((T.lo b * T.lo a : ℝ) : EReal) := by
      rw [hf]
      refine lowest_eq (fun p k => ?_) ?_
      · exact EReal.coe_le_coe_iff.2 (mul_le_mul (T.lo_le p b) (T.lo_le k a) (T.lo_nonneg a) ((T.lo_nonneg b).trans (T.lo_le p b)))
      · obtain ⟨p, hp⟩ := T.lo_mem b
        obtain ⟨k, hk⟩ := T.lo_mem a
        exact ⟨p, k, by rw [hp, hk]⟩
    have hhi : highest (filt K 1#1 (BitVec.ofNat 32 a.val) (BitVec.ofNat 32 b.val)) = ((T.hi b * T.hi a : ℝ) : EReal) := by
      rw [hf]
      refine highest_eq (fun p k => ?_) ?_
      · exact EReal.coe_le_coe_iff.2 (mul_le_mul (T.le_hi p b) (T.le_hi k a) ((T.lo_nonneg a).trans (T.lo_le k a))
          (((T.lo_nonneg b).trans (T.lo_le p b)).trans (T.le_hi p b)))
      · obtain ⟨p, hp⟩ := T.hi_mem b
        obtain ⟨k, hk⟩ := T.hi_mem a
        exact ⟨p, k, by rw [hp, hk]⟩
    have r14 : row B (BitVec.ofNat 32 a.val) (BitVec.ofNat 32 b.val) 14 = (T.lo b : EReal) := by
      rw [row_seen, T.lo_left]
      exact (congrArg _ (T.top_right 14 a)).trans (add_zero _)
    have r15 : row B (BitVec.ofNat 32 a.val) (BitVec.ofNat 32 b.val) 15 = (T.hi b : EReal) := by
      rw [row_seen, T.hi_left]
      exact (congrArg _ (T.top_right 15 a)).trans (add_zero _)
    have r30 : row B (BitVec.ofNat 32 a.val) (BitVec.ofNat 32 b.val) 30 = (T.lo a : EReal) := by
      rw [row_seen, T.lo_right]
      exact (congrArg (· + _) (T.low_left 14 b)).trans (zero_add _)
    have r31 : row B (BitVec.ofNat 32 a.val) (BitVec.ofNat 32 b.val) 31 = (T.hi a : EReal) := by
      rw [row_seen, T.hi_right]
      exact (congrArg (· + _) (T.low_left 15 b)).trans (zero_add _)
    have rp : row B (BitVec.ofNat 32 a.val) (BitVec.ofNat 32 b.val) ⟨p.val, by omega⟩ = (T.kr p b : EReal) := by
      rw [row_seen, T.top_left]
      exact (congrArg _ (T.top_right ⟨p.val, by omega⟩ a)).trans (add_zero _)
    have rk : row B (BitVec.ofNat 32 a.val) (BitVec.ofNat 32 b.val) ⟨16 + k.val, by omega⟩ = (T.kr k a : EReal) := by
      rw [row_seen, T.low_right]
      exact (congrArg (· + _) (T.low_left ⟨k.val, by omega⟩ b)).trans (zero_add _)
    unfold kerTarget refTarget kerScale kerLow
    rw [hlo, hhi, r14, r15, r30, r31, rp, rk, hf, hee]
    have hmax : ∀ x y : ℝ, max (x : EReal) (y : EReal) = ((max x y : ℝ) : EReal) := fun x y => by
      rcases le_total x y with h | h
      · rw [max_eq_right h, max_eq_right (EReal.coe_le_coe_iff.2 h)]
      · rw [max_eq_left h, max_eq_left (EReal.coe_le_coe_iff.2 h)]
    show (T.kr p b : EReal) * Ideal.div 1 _ * _ - _ * Ideal.div 1 _ = Ideal.div _ _
    rw [← EReal.coe_mul, ← EReal.coe_mul, ← EReal.coe_sub, hmax, scale_real _ _ _ _ (lt_max_of_lt_right he)]
    dsimp only
    rw [EReal.coe_mul (T.kr p b)]

end Cert.Heat

end
-- ==== Proof.RefValue.lean ====
/-
  What the reference computes, at an index: the visibility bit, the filtered map, the normalised target, the error,
  the loss as a sum over joints and positions divided by the number of visible joints.
-/
module

public import proofs.«01_k».proof.Proof.RefStages
public import proofs.«01_k».proof.Proof.Spec
public import Idealize.ShloMosaic.Lib.Tactic
public import Idealize.ShloMosaic.Lib.IndicatorCount

@[expose] public section

set_option maxRecDepth 16384

noncomputable section

namespace Cert.ReferenceIdeal.Stages

open Idealize.ShloMosaic Cert.ReferenceIdeal Cert.ReferenceIdeal.Gen
open Cert.Heat (cell seen ind filt lowest highest refTarget eps)

/-- The smoothing matrix, entry by entry. -/
def mat (p i : Fin 14) : EReal := Ideal.ofBits .f32 (lit0 (S14x14.rowMajor (ix2 p i)))

variable (h : FVec Ideal S8192x14x14x14 .f32) (t : FVec Ideal S8192x14x2 .f32) (v : IVec S8192x14x2 32)

/-- The visibility bit of sample `b`, joint `j`. -/
def bit (b : Fin 8192) (j : Fin 14) : BitVec 1 := seen (cell (t (ix3 b j 0))) (cell (t (ix3 b j 1))) (v (ix3 b j 0))

/-- The column cell of a joint. -/
theorem cellX_apply (b : Fin 8192) (j : Fin 14) : cellX t (ix2 b j) = cell (t (ix3 b j 0)) := by
  pointwise [cellX, cells, scaled]
  rfl

/-- The row cell of a joint. -/
theorem cellY_apply (b : Fin 8192) (j : Fin 14) : cellY t (ix2 b j) = cell (t (ix3 b j 1)) := by
  pointwise [cellY, cells, scaled]
  rfl

/-- Bits combined as the reference combines them, over any two arrays of cells. -/
theorem vis_gen (X Y : IVec S8192x14 32) (b : Fin 8192) (j : Fin 14) :
    andi (cmpi .eq (shapeCast S8192x14 (extractStridedSlice S8192x14x1 ![0, 0, 0] v slices_S8192x14x2_S8192x14x1_0_0_0)
      shapeCasts_S8192x14x1_S8192x14) (broadcastInDim S8192x14 ![] bcast_S_S8192x14 (constantI S_ 32 1#32)))
    (andi (andi (andi
      (cmpi .sge X (broadcastInDim S8192x14 ![] bcast_S_S8192x14 (constantI S_ 32 0#32)))
      (cmpi .sle X (broadcastInDim S8192x14 ![] bcast_S_S8192x14 (constantI S_ 32 13#32))))
      (cmpi .sge Y (broadcastInDim S8192x14 ![] bcast_S_S8192x14 (constantI S_ 32 0#32))))
      (cmpi .sle Y (broadcastInDim S8192x14 ![] bcast_S_S8192x14 (constantI S_ 32 13#32)))) (ix2 b j)
      = seen (X (ix2 b j)) (Y (ix2 b j)) (v (ix3 b j 0)) := by
  pointwise
  rfl

/-- The visibility bit of a joint. -/
theorem vis_apply (b : Fin 8192) (j : Fin 14) : vis t v (ix2 b j) = bit t v b j := by
  unfold vis bit
  rw [vis_gen, cellX_apply, cellY_apply]

/-- A cell as fourteen numbers, one at the cell and zero elsewhere. -/
theorem hot_apply (X : IVec S8192x14 32) (b : Fin 8192) (j i : Fin 14) :
    hot (F := Ideal) X (ix3 b j i) = ind (IntOp.cmpi .eq (BitVec.ofNat 32 i.val) (X (ix2 b j))) := by
  pointwise [hot]
  rfl

/-- The visibility bit with two axes of size one added. -/
theorem vis4_apply (b : Fin 8192) (j : Fin 14) (p k : Fin 1) : vis4 t v (ix4 b j p k) = bit t v b j := by
  rw [← vis_apply]
  unfold vis4
  generalize vis t v = X
  pointwise

/-- The delta map over any bits and any two rows of numbers. -/
theorem delta_gen (s : IVec S8192x14x1x1 1) (X Y : FVec Ideal S8192x14x14 .f32) (b : Fin 8192) (j p k : Fin 14) :
    mulf (broadcastInDim S8192x14x14x14 ![0, 1, 2, 3] bcast_S8192x14x14x1_S8192x14x14x14_0_1_2_3
      (mulf (broadcastInDim S8192x14x14x1 ![0, 1, 2, 3] bcast_S8192x14x1x1_S8192x14x14x1_0_1_2_3 (uitofp .f32 s))
        (broadcastInDim S8192x14x14x1 ![0, 1, 2] bcast_S8192x14x14_S8192x14x14x1_0_1_2 Y)))
    (broadcastInDim S8192x14x14x14 ![0, 1, 2, 3] bcast_S8192x14x1x14_S8192x14x14x14_0_1_2_3
      (broadcastInDim S8192x14x1x14 ![0, 1, 3] bcast_S8192x14x14_S8192x14x1x14_0_1_3 X)) (ix4 b j p k)
      = ind (s (ix4 b j 0 0)) * Y (ix3 b j p) * X (ix3 b j k) := by
  pointwise
  rfl

/-- The delta map: one at the cell of a visible joint, zero elsewhere. -/
theorem delta_apply (b : Fin 8192) (j p k : Fin 14) : delta t v (ix4 b j p k) = ind (bit t v b j)
    * ind (IntOp.cmpi .eq (BitVec.ofNat 32 p.val) (cell (t (ix3 b j 1))))
    * ind (IntOp.cmpi .eq (BitVec.ofNat 32 k.val) (cell (t (ix3 b j 0)))) := by
  unfold delta
  rw [delta_gen, hot_apply, hot_apply, cellX_apply, cellY_apply, vis4_apply]

/-- One pass of the filter over any map contracts its third axis with the matrix and puts the new axis last. -/
theorem pass_gen (X : FVec Ideal S8192x14x14x14 .f32) (M : FVec Ideal S14x14 .f32) (b : Fin 8192) (j q p : Fin 14) :
    Host.dotGeneral dot_S8192x14x14x14_S14x14_S8192x14x14x14_2_1_013_0_n_n none X M (ix4 b j q p)
      = ∑ i : Fin 14, X (ix4 b j i q) * M (ix2 p i) := by
  pointwise

/-- The filtered map: the delta map times the smoothing matrix on both sides. -/
theorem filtered_apply (b : Fin 8192) (j p k : Fin 14) :
    filtered t v (ix4 b j p k) = filt mat (bit t v b j) (cell (t (ix3 b j 0))) (cell (t (ix3 b j 1))) p k := by
  unfold filtered
  rw [pass_gen]
  simp only [pass_gen, delta_apply]
  rfl

/-- The least entry over the last two axes of any array. -/
theorem least_gen (X : FVec Ideal S8192x14x14x14 .f32) (b : Fin 8192) (j : Fin 14) :
    Host.reduce FloatOps.minimumf X (constant S_ .f32 0x7F800000#32) reducesTo_S8192x14x14x14_S8192x14_d2_3 h_S_ (ix2 b j)
      = lowest fun p k => X (ix4 b j p k) := by
  unfold lowest
  pointwise

/-- The greatest entry over the last two axes of any array. -/
theorem greatest_gen (X : FVec Ideal S8192x14x14x14 .f32) (b : Fin 8192) (j : Fin 14) :
    Host.reduce FloatOps.maximumf X (constant S_ .f32 0xFF800000#32) reducesTo_S8192x14x14x14_S8192x14_d2_3 h_S_ (ix2 b j)
      = highest fun p k => X (ix4 b j p k) := by
  unfold highest
  pointwise

/-- The least entry of a filtered map. -/
theorem least_apply (b : Fin 8192) (j : Fin 14) :
    least t v (ix2 b j) = lowest (filt mat (bit t v b j) (cell (t (ix3 b j 0))) (cell (t (ix3 b j 1)))) := by
  unfold least
  rw [least_gen]
  simp only [filtered_apply]

/-- The greatest entry of a filtered map. -/
theorem greatest_apply (b : Fin 8192) (j : Fin 14) :
    greatest t v (ix2 b j) = highest (filt mat (bit t v b j) (cell (t (ix3 b j 0))) (cell (t (ix3 b j 1)))) := by
  unfold greatest
  rw [greatest_gen]
  simp only [filtered_apply]

/-- The normalisation over any map, bounds and bits. -/
theorem target_gen (X : FVec Ideal S8192x14x14x14 .f32) (lo hi : FVec Ideal S8192x14 .f32) (s : IVec S8192x14x1x1 1)
    (b : Fin 8192) (j p k : Fin 14) :
    select (broadcastInDim S8192x14x14x14 ![0, 1, 2, 3] bcast_S8192x14x1x1_S8192x14x14x14_0_1_2_3 s)
    (Host.divf (subf X
        (broadcastInDim S8192x14x14x14 ![0, 1, 2, 3] bcast_S8192x14x1x1_S8192x14x14x14_0_1_2_3
          (broadcastInDim S8192x14x1x1 ![0, 1] bcast_S8192x14_S8192x14x1x1_0_1 lo)))
      (broadcastInDim S8192x14x14x14 ![0, 1, 2, 3] bcast_S8192x14x1x1_S8192x14x14x14_0_1_2_3
        (maximumf (subf (broadcastInDim S8192x14x1x1 ![0, 1] bcast_S8192x14_S8192x14x1x1_0_1 hi)
            (broadcastInDim S8192x14x1x1 ![0, 1] bcast_S8192x14_S8192x14x1x1_0_1 lo))
          (broadcastInDim S8192x14x1x1 ![] bcast_S_S8192x14x1x1 (constant S_ .f32 0x2B8CBCCC#32)))))
    (broadcastInDim S8192x14x14x14 ![] bcast_S_S8192x14x14x14 (id (constant S_ .f32 0x00000000#32))) (ix4 b j p k)
      = Scalar.select (s (ix4 b j 0 0))
        (Ideal.div (X (ix4 b j p k) - lo (ix2 b j)) (max (hi (ix2 b j) - lo (ix2 b j)) eps)) 0 := by
  unfold eps
  pointwise [id_eq]

/-- The target at an index is the target of its joint. -/
theorem target_apply (b : Fin 8192) (j p k : Fin 14) :
    target t v (ix4 b j p k) = refTarget mat (bit t v b j) (cell (t (ix3 b j 0))) (cell (t (ix3 b j 1))) p k := by
  unfold target refTarget
  rw [target_gen, least_apply, greatest_apply, filtered_apply, vis4_apply]

/-- The masked difference over any bits and any differences. -/
theorem error_gen (s : IVec S8192x14 1) (D : FVec Ideal S8192x14x14x14 .f32) (b : Fin 8192) (j p k : Fin 14) :
    select (broadcastInDim S8192x14x14x14 ![0, 1, 2, 3] bcast_S8192x14x14x1_S8192x14x14x14_0_1_2_3
      (andi (broadcastInDim S8192x14x14x1 ![0, 1, 2, 3] bcast_S8192x14x1x1_S8192x14x14x1_0_1_2_3
          (broadcastInDim S8192x14x1x1 ![0, 1] bcast_S8192x14_S8192x14x1x1_0_1 (noti s)))
        (broadcastInDim S8192x14x14x1 ![0, 1, 2, 3] bcast_S1x1x14x1_S8192x14x14x1_0_1_2_3
          (broadcastInDim S1x1x14x1 ![2, 3] bcast_S14x1_S1x1x14x1_2_3
            (cmpi .eq (broadcastInDim S14x1 ![0] bcast_S14_S14x1_0 (iotaInDim S14 32 0))
              (broadcastInDim S14x1 ![] bcast_S_S14x1 (constantI S_ 32 0#32)))))))
    (broadcastInDim S8192x14x14x14 ![] bcast_S_S8192x14x14x14 (id (constant S_ .f32 0x00000000#32))) D (ix4 b j p k)
      = Scalar.select (IntOp.andi (~~~s (ix2 b j)) (IntOp.cmpi .eq (BitVec.ofNat 32 p.val) 0#32)) 0 (D (ix4 b j p k)) := by
  pointwise [id_eq]

/-- The error at an index: zero on row zero of an invisible joint, the prediction less the target elsewhere. -/
theorem error_apply (b : Fin 8192) (j p k : Fin 14) :
    error h t v (ix4 b j p k) = Scalar.select (IntOp.andi (~~~bit t v b j) (IntOp.cmpi .eq (BitVec.ofNat 32 p.val) 0#32)) 0
      (h (ix4 b j p k) - refTarget mat (bit t v b j) (cell (t (ix3 b j 0))) (cell (t (ix3 b j 1))) p k) := by
  unfold error
  rw [error_gen, vis_apply]
  show Scalar.select _ 0 (h (ix4 b j p k) - target t v (ix4 b j p k)) = _
  rw [target_apply]

end Cert.ReferenceIdeal.Stages

end
-- ==== Proof.Table.lean ====
/-
  The two constant tables: the kernel's table carries the reference's smoothing matrix twice, with its column minima
  and maxima, and zero elsewhere. Decided over the words.
-/
module

public import proofs.«01_k».proof.Proof.Spec
public import proofs.«01_k».proof.Proof.RefValue
public import proofs.«01_k».proof.Proof.Gen.KernelIdeal.Skeleton

@[expose] public section

set_option maxRecDepth 16384

noncomputable section

namespace Cert.Heat

open Idealize.ShloMosaic

/-- Entry `(p, i)` of the smoothing matrix, as a word. -/
def matWord (p i : Fin 14) : BitVec 32 := Cert.ReferenceIdeal.lit0 ⟨14 * p.val + i.val, by omega⟩

/-- Entry `(r, x)` of the kernel's table, as a word. -/
def tabWord (r : Fin 32) (x : Fin 28) : BitVec 32 := Cert.KernelIdeal.lit0 ⟨28 * r.val + x.val, by omega⟩

/-- The smoothing matrix's words are finite and not negative. -/
theorem mat_finite : ∀ p i : Fin 14, (matWord p i).toNat < 2139095040 := by decide +kernel
/-- The table's words are finite and not negative. -/
theorem tab_finite : ∀ (r : Fin 32) (x : Fin 28), (tabWord r x).toNat < 2139095040 := by decide +kernel
/-- The table's upper left part is the smoothing matrix. -/
theorem tab_top_left : ∀ p i : Fin 14, tabWord ⟨p.val, by omega⟩ ⟨i.val, by omega⟩ = matWord p i := by decide +kernel
/-- The table's upper right part is zero. -/
theorem tab_top_right : ∀ (p : Fin 16) (i : Fin 14), tabWord ⟨p.val, by omega⟩ ⟨14 + i.val, by omega⟩ = 0#32 := by decide +kernel
/-- The table's lower left part is zero. -/
theorem tab_low_left : ∀ (p : Fin 16) (i : Fin 14), tabWord ⟨16 + p.val, by omega⟩ ⟨i.val, by omega⟩ = 0#32 := by decide +kernel
/-- The table's lower right part is the smoothing matrix. -/
theorem tab_low_right : ∀ p i : Fin 14, tabWord ⟨16 + p.val, by omega⟩ ⟨14 + i.val, by omega⟩ = matWord p i := by decide +kernel
/-- The two halves of the table carry the same row of least entries. -/
theorem tab_lo : ∀ i : Fin 14, tabWord 30 ⟨14 + i.val, by omega⟩ = tabWord 14 ⟨i.val, by omega⟩ := by decide +kernel
/-- The two halves of the table carry the same row of greatest entries. -/
theorem tab_hi : ∀ i : Fin 14, tabWord 31 ⟨14 + i.val, by omega⟩ = tabWord 15 ⟨i.val, by omega⟩ := by decide +kernel
/-- The least entries are below every entry of their column. -/
theorem tab_lo_le : ∀ p i : Fin 14, (tabWord 14 ⟨i.val, by omega⟩).toNat ≤ (matWord p i).toNat := by decide +kernel
/-- The greatest entries are above every entry of their column. -/
theorem tab_le_hi : ∀ p i : Fin 14, (matWord p i).toNat ≤ (tabWord 15 ⟨i.val, by omega⟩).toNat := by decide +kernel
/-- Each least entry is an entry of its column. -/
theorem tab_lo_mem : ∀ i : Fin 14, ∃ p : Fin 14, matWord p i = tabWord 14 ⟨i.val, by omega⟩ := by decide +kernel
/-- Each greatest entry is an entry of its column. -/
theorem tab_hi_mem : ∀ i : Fin 14, ∃ p : Fin 14, matWord p i = tabWord 15 ⟨i.val, by omega⟩ := by decide +kernel

/-- The kernel's table, entry by entry. -/
def tab (r : Fin 32) (x : Fin 28) : EReal := Ideal.ofBits .f32 (Cert.KernelIdeal.lit0 (Cert.KernelIdeal.S32x28.rowMajor (ix2 r x)))

/-- An entry of the table is the real number its word stands for. -/
theorem tab_eq (r : Fin 32) (x : Fin 28) : tab r x = (wordVal (tabWord r x) : EReal) := by
  rw [← ofBits_word (tab_finite r x)]
  unfold tab tabWord
  congr 2
  apply Fin.ext
  refine (Shape.rowMajor_val_two _).trans ?_
  show r.val * 28 + x.val = 28 * r.val + x.val
  omega

/-- An entry of the smoothing matrix is the real number its word stands for. -/
theorem mat_eq (p i : Fin 14) : Cert.ReferenceIdeal.Stages.mat p i = (wordVal (matWord p i) : EReal) := by
  rw [← ofBits_word (mat_finite p i)]
  unfold Cert.ReferenceIdeal.Stages.mat matWord
  congr 2
  apply Fin.ext
  refine (Shape.rowMajor_val_two _).trans ?_
  show p.val * 14 + i.val = 14 * p.val + i.val
  omega

/-- The two tables hold what the equation of the targets needs. -/
def tables : Tables Cert.ReferenceIdeal.Stages.mat tab where
  kr p i := wordVal (matWord p i)
  lo i := wordVal (tabWord 14 ⟨i.val, by omega⟩)
  hi i := wordVal (tabWord 15 ⟨i.val, by omega⟩)
  coe p i := mat_eq p i
  lo_nonneg i := wordVal_nonneg _
  lo_le p i := wordVal_le (tab_finite _ _) (mat_finite _ _) (tab_lo_le p i)
  le_hi p i := wordVal_le (mat_finite _ _) (tab_finite _ _) (tab_le_hi p i)
  lo_mem i := (tab_lo_mem i).imp fun _ h => congrArg wordVal h
  hi_mem i := (tab_hi_mem i).imp fun _ h => congrArg wordVal h
  top_left p i := by rw [tab_eq, tab_top_left]
  top_right p i := by rw [tab_eq, tab_top_right, wordVal_zero]; rfl
  low_left p i := by rw [tab_eq, tab_low_left, wordVal_zero]; rfl
  low_right p i := by rw [tab_eq, tab_low_right]
  lo_left i := tab_eq _ _
  lo_right i := by rw [tab_eq, tab_lo]
  hi_left i := tab_eq _ _
  hi_right i := by rw [tab_eq, tab_hi]

end Cert.Heat

end
-- ==== Proof.Entry.lean ====
/-
  The blocks that a grid point reads, in terms of the program's arguments: coordinates, flags, predictions and the
  constant table, each at a sample lane and a joint.
-/
module

public import proofs.«01_k».proof.Proof.Table
public import proofs.«01_k».proof.Proof.Gen.KernelIdeal.Frame
public import Idealize.ShloMosaic.Lib.Pipeline.ValueKit
public import Idealize.ShloMosaic.Lib.Tactic
public import Idealize.ShloMosaic.Lib.Claim

@[expose] public section

set_option maxRecDepth 16384

noncomputable section

namespace Cert.KernelIdeal.Blocks

open Idealize.ShloMosaic Idealize.ShloMosaic.TcCoe Cert.KernelIdeal Cert.KernelIdeal.Gen

variable (m : (ℓ : Loc nD τ sig) → Buf (Elt Ideal) ℓ) (c : Dev nD)

/-- The predictions. -/
def argH : FVec Ideal S8192x14x14x14 .f32 := m ((c : Thread nD τ).loc main_arg1)
/-- The coordinates. -/
def argT : FVec Ideal S8192x14x2 .f32 := m ((c : Thread nD τ).loc main_arg2)
/-- The flags. -/
def argV : IVec S8192x14x2 32 := m ((c : Thread nD τ).loc main_arg3)

/-- There are fourteen grid points. -/
theorem lt_points (t : Fin cfg0.N) : t.val < 14 := lt_of_lt_of_eq t.isLt N_0

/-- The sample that lane `l` of point `t` works on. -/
def sample (t : Fin cfg0.N) (l : Fin 4096) : Fin 8192 := ⟨4096 * (t.val / 7) + l.val, by have := lt_points t; omega⟩

/-- The joint that row `o` of point `t`'s pair works on. -/
def joint (t : Fin cfg0.N) (o : Fin 2) : Fin 14 := ⟨2 * (t.val % 7) + o.val, by omega⟩

/-- Which block of the coordinates a point reads: the half batch's. -/
theorem idx0 : ∀ t : Fin cfg0.N, win0_0.index t = ![0, 0, t.val / 7] := by decide +kernel
/-- Which block of the flags a point reads: the half batch's. -/
theorem idx1 : ∀ t : Fin cfg0.N, win0_1.index t = ![0, 0, t.val / 7] := by decide +kernel
/-- Which block of the predictions a point reads: its pair of joints, its half batch. -/
theorem idx2 : ∀ t : Fin cfg0.N, win0_2.index t = ![t.val % 7, 0, t.val / 7] := by decide +kernel
/-- Every point reads the whole table. -/
theorem idx3 : ∀ t : Fin cfg0.N, win0_3.index t = ![0, 0] := by decide +kernel
/-- Which block of the targets a point writes: its pair of joints, its half batch. -/
theorem idx4 : ∀ t : Fin cfg0.N, win0_4.index t = ![t.val % 7, 0, t.val / 7] := by decide +kernel
/-- Which block of the squared errors a point adds to: its half batch's. -/
theorem idx5 : ∀ t : Fin cfg0.N, win0_5.index t = ![t.val / 7, 0, 0] := by decide +kernel
/-- Which block of the visible joints a point adds to: its half batch's. -/
theorem idx6 : ∀ t : Fin cfg0.N, win0_6.index t = ![t.val / 7, 0, 0] := by decide +kernel

/-- The transposed coordinates as the region finds them. -/
theorem entry_t (j : Fin 14) (a : Fin 2) (b : Fin 8192) : (V m c main_v2 : FVec Ideal S14x2x8192 .f32) (ix3 j a b) = argT m c (ix3 b j a) := by
  have e : V m c main_v2 = transpose S14x2x8192 [1, 2, 0] (argT m c) transposes_S8192x14x2_S14x2x8192_1_2_0 := rfl
  rw [e]
  pointwise

/-- The transposed flags as the region finds them. -/
theorem entry_v (j : Fin 14) (a : Fin 2) (b : Fin 8192) : (V m c main_v3 : IVec S14x2x8192 32) (ix3 j a b) = argV m c (ix3 b j a) := by
  have e : V m c main_v3 = transpose S14x2x8192 [1, 2, 0] (argV m c) transposes_S8192x14x2_S14x2x8192_1_2_0 := rfl
  rw [e]
  pointwise

/-- The transposed predictions as the region finds them: joint and row folded into one axis. -/
theorem entry_h (r : Fin 196) (k : Fin 14) (b : Fin 8192) : (V m c main_v1 : FVec Ideal S196x14x8192 .f32) (ix3 r k b)
    = argH m c (ix4 b ⟨r.val / 14, by omega⟩ ⟨r.val % 14, by omega⟩ k) := by
  have e : V m c main_v1 = shapeCast S196x14x8192 (transpose S14x14x14x8192 [1, 2, 3, 0] (argH m c)
      transposes_S8192x14x14x14_S14x14x14x8192_1_2_3_0) shapeCasts_S14x14x14x8192_S196x14x8192 := rfl
  rw [e]
  pointwise

/-- The constant table as the region finds it. -/
theorem entry_k (r : Fin 32) (x : Fin 28) : (V m c main_cst : FVec Ideal S32x28 .f32) (ix2 r x) = Cert.Heat.tab r x := rfl

/-- A point's block of the coordinates, entry by entry. -/
theorem blk_t (t : Fin cfg0.N) (j : Fin 14) (a : Fin 2) (l : Fin 4096) :
    (iblk m c 0 t : Vec Ideal S14x2x4096 .f32) (ix3 j a l) = argT m c (ix3 (sample t l) j a) := by
  rw [← entry_t]
  unfold sample
  blk_ext [iblk, idx0 t]

/-- A point's block of the flags, entry by entry. -/
theorem blk_v (t : Fin cfg0.N) (j : Fin 14) (a : Fin 2) (l : Fin 4096) :
    (iblk m c 1 t : Vec Ideal S14x2x4096 .i32) (ix3 j a l) = argV m c (ix3 (sample t l) j a) := by
  rw [← entry_v]
  unfold sample
  blk_ext [iblk, idx1 t]

/-- A point's block of the predictions, entry by entry: two joints, one after the other. -/
theorem blk_h (t : Fin cfg0.N) (o : Fin 2) (p k : Fin 14) (l : Fin 4096) :
    (iblk m c 2 t : Vec Ideal S28x14x4096 .f32) (ix3 ⟨14 * o.val + p.val, by omega⟩ k l) = argH m c (ix4 (sample t l) (joint t o) p k) := by
  have hN := lt_points t
  have e := entry_h m c ⟨28 * (t.val % 7) + (14 * o.val + p.val), by omega⟩ k (sample t l)
  have e1 : (⟨(28 * (t.val % 7) + (14 * o.val + p.val)) / 14, by omega⟩ : Fin 14) = joint t o := Fin.ext (by show _ / 14 = 2 * _ + _; omega)
  have e2 : (⟨(28 * (t.val % 7) + (14 * o.val + p.val)) % 14, by omega⟩ : Fin 14) = p := Fin.ext (by show _ % 14 = _; omega)
  simp only [] at e
  rw [e1, e2] at e
  rw [← e]
  unfold sample
  blk_ext [iblk, idx2 t]

/-- A point's block of the table is the table. -/
theorem blk_k (t : Fin cfg0.N) (r : Fin 32) (x : Fin 28) :
    (iblk m c 3 t : Vec Ideal S32x28 .f32) (ix2 r x) = Cert.Heat.tab r x := by
  rw [← entry_k m c]
  blk_ext [iblk, idx3 t]

/-- The first joint of a point loads the column coordinate and the flag at its own row. -/
theorem off1_0 : ∀ t : Fin cfg0.N, k0_off1 (grid0.coords t) 0#32 = ![(joint t 0).val, 0, 0] := by decide +kernel
/-- The second joint of a point loads the column coordinate and the flag at its own row. -/
theorem off1_1 : ∀ t : Fin cfg0.N, k0_off1 (grid0.coords t) 1#32 = ![(joint t 1).val, 0, 0] := by decide +kernel
/-- The first joint of a point loads the row coordinate at its own row. -/
theorem off2_0 : ∀ t : Fin cfg0.N, k0_off2 (grid0.coords t) 0#32 = ![(joint t 0).val, 1, 0] := by decide +kernel
/-- The second joint of a point loads the row coordinate at its own row. -/
theorem off2_1 : ∀ t : Fin cfg0.N, k0_off2 (grid0.coords t) 1#32 = ![(joint t 1).val, 1, 0] := by decide +kernel

/-- One row of one plane of a block, loaded. -/
theorem ld_at {e : EltTy} (X : Vec Ideal S14x2x4096 e) (off : Fin 3 → ℕ) (inb : ∀ a, off a + ![1, 1, 4096] a ≤ S14x2x4096.size a)
    (j : Fin 14) (a : Fin 2) (l : Fin 4096) (h : off = ![j.val, a.val, 0]) :
    View.ld X (Rect.unit off ![1, 1, 4096] inb) (ix3 0 0 l) = X (ix3 j a l) := by
  subst h
  rw [View.ld_apply]
  congr 1
  funext b; apply Fin.ext
  match b with
  | ⟨0, _⟩ => rfl
  | ⟨1, _⟩ => rfl
  | ⟨2, _⟩ => exact (Nat.zero_add _).trans (Nat.one_mul _)

end Cert.KernelIdeal.Blocks

end
-- ==== Proof.Pays.lean ====
/-
  What one grid point computes, at an index: the cells, the visibility bits, the rows of the table, the targets of its
  two joints, their squared errors and the two running totals.
-/
module

public import proofs.«01_k».proof.Proof.Spec
public import proofs.«01_k».proof.Proof.Gen.KernelIdeal.Skeleton

@[expose] public section

set_option maxRecDepth 16384

noncomputable section

namespace Cert.KernelIdeal.Blocks

open Idealize.ShloMosaic Cert.KernelIdeal Cert.KernelIdeal.Gen
open Cert.Heat (cell seen row kerTarget kerLow kerScale part eps)

/-- A sum over the first two axes of a rank-3 array, at an index of the last axis. -/
theorem reduce_two {n0 n1 n2 : ℕ} {t : Shape} (h : (⟨3, ![n0, n1, n2]⟩ : Shape).Reduces [0, 1] t)
    (x : (⟨3, ![n0, n1, n2]⟩ : Shape).Idx → EReal) (j : t.Idx) (l : Fin n2)
    (hl : ∀ (b : Fin t.rank), (j b).val = l.val) :
    Ideal.reduceAdd h x j = ∑ p : Fin n0, ∑ k : Fin n1, x (ix3 p k l) := by
  have hr : t.rank = 1 := h.1
  refine (Finset.sum_filter_eq_sum_of_fiber _ (fun k : Fin n0 × Fin n1 => ix3 k.1 k.2 l)
    (fun _ _ e => Prod.ext (congrFun e 0) (congrFun e 1)) (fun i => ?_) x).trans ?_
  · constructor
    · intro e
      refine ⟨(i 0, i 1), ?_⟩
      funext a; apply Fin.ext
      match a with
      | ⟨0, _⟩ => rfl
      | ⟨1, _⟩ => rfl
      | ⟨2, _⟩ => exact ((congrArg Fin.val (congrFun e ⟨0, by omega⟩)).trans (hl _)).symm
    · rintro ⟨k, rfl⟩
      funext b
      apply Fin.ext
      refine Eq.trans ?_ (hl b).symm
      match b with
      | ⟨0, _⟩ => rfl
      | ⟨_ + 1, hb⟩ => exact absurd hb (by omega)
  · simp only [Fintype.sum_prod_type]

/-- The first joint's column cell. -/
theorem pay2_apply (x : Vec Ideal S1x1x4096 .f32) (l : Fin 4096) : k0_pay2 x (ix2 0 l) = cell (x (ix3 0 0 l)) := by
  pointwise [k0_pay2]
  rfl

/-- The first joint's row cell. -/
theorem pay3_apply (x : Vec Ideal S1x1x4096 .f32) (l : Fin 4096) : k0_pay3 x (ix2 0 l) = cell (x (ix3 0 0 l)) := by
  pointwise [k0_pay3]
  rfl

/-- The second joint's column cell. -/
theorem pay9_apply (x : Vec Ideal S1x1x4096 .f32) (l : Fin 4096) : k0_pay9 x (ix2 0 l) = cell (x (ix3 0 0 l)) := by
  pointwise [k0_pay9]
  rfl

/-- The second joint's row cell. -/
theorem pay11_apply (x : Vec Ideal S1x1x4096 .f32) (l : Fin 4096) : k0_pay11 (k0_pay10 x) (ix2 0 l) = cell (x (ix3 0 0 l)) := by
  pointwise [k0_pay11, k0_pay10]
  rfl

/-- The second joint's flag. -/
theorem pay8_apply (v : Vec Ideal S1x1x4096 .i32) (l : Fin 4096) : k0_pay8 (F := Ideal) v (ix2 0 l) = v (ix3 0 0 l) := by
  pointwise [k0_pay8]

/-- The first joint's visibility bit. -/
theorem pay4_apply (x y : Vec Ideal S1x1x4096 .f32) (v : Vec Ideal S1x1x4096 .i32) (l : Fin 4096) :
    k0_pay4 x y v (ix2 0 l) = seen (cell (x (ix3 0 0 l))) (cell (y (ix3 0 0 l))) (v (ix3 0 0 l)) := by
  rw [← pay2_apply, ← pay3_apply]
  unfold k0_pay4
  generalize k0_pay2 x = X
  generalize k0_pay3 y = Y
  pointwise
  rfl

/-- The first joint's visibility as a number. -/
theorem pay5_apply (s : IVec S1x4096 1) (l : Fin 4096) : k0_pay5 (F := Ideal) s (ix2 0 l) = Scalar.select (s (ix2 0 l)) 1 0 := by
  pointwise [k0_pay5]

/-- The second joint's visibility as a number. -/
theorem pay17_apply (v x : IVec S1x4096 32) (y : FVec Ideal S1x4096 .f32) (l : Fin 4096) :
    k0_pay17 v x y (ix2 0 l) = Scalar.select (seen (x (ix2 0 l)) (k0_pay11 y (ix2 0 l)) (v (ix2 0 l))) 1 0 := by
  unfold k0_pay17
  generalize k0_pay11 y = Y
  pointwise
  rfl

/-- The first joint's target. -/
theorem pay6_apply (xi yi : IVec S1x4096 32) (s : IVec S1x4096 1) (K : Vec Ideal S32x28 .f32) (p k : Fin 14) (l : Fin 4096) :
    k0_pay6 xi yi s K (ix3 p k l)
      = kerTarget (fun r x => K (ix2 r x)) (s (ix2 0 l)) (xi (ix2 0 l)) (yi (ix2 0 l)) p k := by
  pointwise [k0_pay6, k0_pay5]
  rfl

/-- The product of the table with the second joint's two selected columns, row by row. -/
theorem pay12_apply (xi : IVec S1x4096 32) (y : FVec Ideal S1x4096 .f32) (K : Vec Ideal S32x28 .f32) (r : Fin 32) (l : Fin 4096) :
    k0_pay12 xi y K (ix2 r l) = row (fun r x => K (ix2 r x)) (xi (ix2 0 l)) (k0_pay11 y (ix2 0 l)) r := by
  unfold k0_pay12
  generalize k0_pay11 y = Y
  pointwise
  rfl

/-- The second joint's target from its rows, its least entry, its denominator and its visibility. -/
theorem pay18_gen (R C : FVec Ideal S14x4096 .f32) (n d s : FVec Ideal S1x4096 .f32) (p k : Fin 14) (l : Fin 4096) :
    k0_pay18 R C n d s (ix3 p k l) = R (ix2 p l) * Ideal.div (s (ix2 0 l)) (d (ix2 0 l)) * C (ix2 k l)
      - n (ix2 0 l) * Ideal.div (s (ix2 0 l)) (d (ix2 0 l)) := by
  pointwise [k0_pay18]

/-- The rows of that product that hold the map's row factor. -/
theorem pay13_apply (xi : IVec S1x4096 32) (y : FVec Ideal S1x4096 .f32) (K : Vec Ideal S32x28 .f32) (p : Fin 14) (l : Fin 4096) :
    k0_pay13 xi y K (ix2 p l) = row (fun r x => K (ix2 r x)) (xi (ix2 0 l)) (k0_pay11 y (ix2 0 l)) ⟨p.val, by omega⟩ := by
  rw [← pay12_apply]
  unfold k0_pay13
  generalize k0_pay12 xi y K = X
  pointwise

/-- The rows of that product that hold the map's column factor. -/
theorem pay14_apply (xi : IVec S1x4096 32) (y : FVec Ideal S1x4096 .f32) (K : Vec Ideal S32x28 .f32) (p : Fin 14) (l : Fin 4096) :
    k0_pay14 xi y K (ix2 p l) = row (fun r x => K (ix2 r x)) (xi (ix2 0 l)) (k0_pay11 y (ix2 0 l)) ⟨16 + p.val, by omega⟩ := by
  rw [← pay12_apply]
  unfold k0_pay14
  generalize k0_pay12 xi y K = X
  pointwise

/-- The least entry of the second joint's map. -/
theorem pay15_apply (xi : IVec S1x4096 32) (y : FVec Ideal S1x4096 .f32) (K : Vec Ideal S32x28 .f32) (l : Fin 4096) :
    k0_pay15 xi y K (ix2 0 l) = kerLow (fun r x => K (ix2 r x)) (xi (ix2 0 l)) (k0_pay11 y (ix2 0 l)) := by
  unfold kerLow
  rw [← pay12_apply, ← pay12_apply]
  unfold k0_pay15
  generalize k0_pay12 xi y K = X
  pointwise

/-- The denominator of the second joint's target. -/
theorem pay16_apply (xi : IVec S1x4096 32) (y : FVec Ideal S1x4096 .f32) (K : Vec Ideal S32x28 .f32) (l : Fin 4096) :
    k0_pay16 xi y K (ix2 0 l) = max (row (fun r x => K (ix2 r x)) (xi (ix2 0 l)) (k0_pay11 y (ix2 0 l)) 15
      * row (fun r x => K (ix2 r x)) (xi (ix2 0 l)) (k0_pay11 y (ix2 0 l)) 31
      - kerLow (fun r x => K (ix2 r x)) (xi (ix2 0 l)) (k0_pay11 y (ix2 0 l))) eps := by
  rw [← pay15_apply, ← pay12_apply, ← pay12_apply]
  unfold k0_pay16
  generalize k0_pay12 xi y K = X
  generalize k0_pay15 xi y K = Y
  unfold eps
  pointwise

/-- The second joint's target is the same formula of its own cells. -/
theorem pay18_apply (v xi : IVec S1x4096 32) (y : FVec Ideal S1x4096 .f32) (K : Vec Ideal S32x28 .f32) (p k : Fin 14) (l : Fin 4096) :
    k0_pay18 (k0_pay13 xi y K) (k0_pay14 xi y K) (k0_pay15 xi y K) (k0_pay16 xi y K) (k0_pay17 v xi y) (ix3 p k l)
      = kerTarget (fun r x => K (ix2 r x)) (seen (xi (ix2 0 l)) (k0_pay11 y (ix2 0 l)) (v (ix2 0 l))) (xi (ix2 0 l))
        (k0_pay11 y (ix2 0 l)) p k := by
  rw [pay18_gen, pay13_apply, pay14_apply, pay15_apply, pay16_apply, pay17_apply]
  rfl

/-- Rows one to thirteen of a map, summed. -/
theorem rest_apply (X : FVec Ideal S14x14x4096 .f32) (l : Fin 4096) :
    Ideal.reduceAdd reduces_S13x14x4096_S4096 (extractStridedSlice S13x14x4096 ![1, 0, 0] X slices_S14x14x4096_o1_0_0_S13x14x4096)
      (ix1 l) = ∑ p : Fin 13, ∑ k : Fin 14, X (ix3 p.succ k l) := by
  refine (reduce_two _ _ _ l fun b => ?_).trans ?_
  · match b with
    | ⟨0, _⟩ => rfl
  · refine Finset.sum_congr rfl fun p _ => Finset.sum_congr rfl fun k _ => ?_
    pointwise
    congr 1
    funext a; apply Fin.ext
    match a with
    | ⟨0, _⟩ => exact Nat.add_comm _ _
    | ⟨1, _⟩ => rfl
    | ⟨2, _⟩ => rfl

/-- Row zero of a map, summed where a bit is clear. -/
theorem first_apply (s : IVec S1x1x4096 1) (X : FVec Ideal S14x14x4096 .f32) (l : Fin 4096) :
    Ideal.reduceAdd reduces_S1x14x4096_S4096 (select (broadcastTo S1x14x4096 s broadcasts_S1x1x4096_S1x14x4096)
        (broadcast S1x14x4096 0) (extractStridedSlice S1x14x4096 ![0, 0, 0] X slices_S14x14x4096_o0_0_0_S1x14x4096)) (ix1 l)
      = ∑ k : Fin 14, Scalar.select (s (ix3 0 0 l)) 0 (X (ix3 0 k l)) := by
  refine (reduce_two _ _ _ l fun b => ?_).trans ?_
  · match b with
    | ⟨0, _⟩ => rfl
  · rw [Fin.sum_univ_one]
    refine Finset.sum_congr rfl fun k _ => ?_
    pointwise

/-- The comparison of the visibility with zero, lane by lane. -/
theorem zero_apply (vf : FVec Ideal S1x4096 .f32) (l : Fin 4096) :
    shapeCast S1x1x4096 (cmpf CmpFPredicate.oeq vf (broadcast S1x4096 0)) shapeCasts_S1x4096_S1x1x4096 (ix3 0 0 l)
      = Ideal.cmp .oeq (vf (ix2 0 l)) 0 := by
  pointwise

/-- The first joint's squared error. -/
theorem pay7_apply (vf : FVec Ideal S1x4096 .f32) (T : FVec Ideal S14x14x4096 .f32) (h : Vec Ideal S14x14x4096 .f32) (l : Fin 4096) :
    k0_pay7 vf T h (ix3 0 0 l) = part (vf (ix2 0 l)) fun p k => h (ix3 p k l) - T (ix3 p k l) := by
  pointwise [k0_pay7]
  rw [rest_apply, first_apply, zero_apply]
  rfl

/-- The squared errors' total after a point: the total before it, the first joint's error, the second joint's. -/
theorem pay21_apply (a : FVec Ideal S1x1x4096 .f32) (R C : FVec Ideal S14x4096 .f32) (n d s : FVec Ideal S1x4096 .f32)
    (h : Vec Ideal S14x14x4096 .f32) (o : Vec Ideal S1x1x4096 .f32) (l : Fin 4096) :
    k0_pay21 a R C n d s h o (ix3 0 0 l) = o (ix3 0 0 l) + (a (ix3 0 0 l)
      + part (s (ix2 0 l)) fun p k => h (ix3 p k l) - k0_pay18 R C n d s (ix3 p k l)) := by
  unfold k0_pay21
  generalize k0_pay18 R C n d s = T
  pointwise
  rw [rest_apply, first_apply, zero_apply]
  rfl

/-- The visible joints' total after a point: the total before it and the two joints' visibilities. -/
theorem pay1_apply (a b : FVec Ideal S1x4096 .f32) (o : Vec Ideal S1x1x4096 .f32) (l : Fin 4096) :
    k0_pay1 a b o (ix3 0 0 l) = o (ix3 0 0 l) + (a (ix2 0 l) + b (ix2 0 l)) := by
  pointwise [k0_pay1]

/-- The squared errors' total starts at zero. -/
theorem pay19_apply (y : S1x1x4096.Idx) : k0_pay19 (F := Ideal) y = 0 := by
  show Ideal.ofBits .f32 0#32 = 0
  exact Ideal.ofBits_zero_f32

/-- The visible joints' total starts at zero. -/
theorem pay20_apply (y : S1x1x4096.Idx) : k0_pay20 (F := Ideal) y = 0 := by
  show Ideal.ofBits .f32 0#32 = 0
  exact Ideal.ofBits_zero_f32

end Cert.KernelIdeal.Blocks

end
-- ==== Proof.Points.lean ====
/-
  What the output blocks hold after a grid point: the targets of its two joints, and the two running totals of its
  lanes, which the first of seven points starts from zero and each point adds its two joints to.
-/
module

public import proofs.«01_k».proof.Proof.Entry
public import proofs.«01_k».proof.Proof.Pays
public import Idealize.ShloMosaic.Lib.Pipeline.ReadBack

@[expose] public section

set_option maxRecDepth 16384

noncomputable section

namespace Cert.KernelIdeal.Blocks

open Idealize.ShloMosaic Idealize.ShloMosaic.TcCoe Idealize.ShloMosaic.Tactic Cert.KernelIdeal Cert.KernelIdeal.Gen
open Cert.Heat (cell seen kerTarget part tab)

/-- The visibility bit of sample `b`, joint `j`. -/
def bitOf (T : FVec Ideal S8192x14x2 .f32) (V : IVec S8192x14x2 32) (b : Fin 8192) (j : Fin 14) : BitVec 1 :=
  seen (cell (T (ix3 b j 0))) (cell (T (ix3 b j 1))) (V (ix3 b j 0))

/-- The target of sample `b`, joint `j`. -/
def tgt (T : FVec Ideal S8192x14x2 .f32) (V : IVec S8192x14x2 32) (b : Fin 8192) (j p k : Fin 14) : EReal :=
  kerTarget tab (bitOf T V b j) (cell (T (ix3 b j 0))) (cell (T (ix3 b j 1))) p k

/-- The visibility of sample `b`, joint `j`, as a number. -/
def wt (T : FVec Ideal S8192x14x2 .f32) (V : IVec S8192x14x2 32) (b : Fin 8192) (j : Fin 14) : EReal :=
  Scalar.select (bitOf T V b j) 1 0

/-- The squared error of sample `b`, joint `j`. -/
def sqr (H : FVec Ideal S8192x14x14x14 .f32) (T : FVec Ideal S8192x14x2 .f32) (V : IVec S8192x14x2 32) (b : Fin 8192)
    (j : Fin 14) : EReal :=
  part (wt T V b j) fun p k => H (ix4 b j p k) - tgt T V b j p k

variable (m : (ℓ : Loc nD τ sig) → Buf (Elt Ideal) ℓ) (c : Dev nD)

/-- The first joint's column coordinate, loaded. -/
theorem ld_x0 (t : Fin cfg0.N) (inb) (l : Fin 4096) :
    View.ld (iblk m c 0 t : Vec Ideal S14x2x4096 .f32) (Rect.unit (k0_off1 (grid0.coords t) 0#32) ![1, 1, 4096] inb) (ix3 0 0 l)
      = argT m c (ix3 (sample t l) (joint t 0) 0) := (ld_at _ _ _ (joint t 0) 0 l (off1_0 t)).trans (blk_t m c t _ _ l)
/-- The second joint's column coordinate, loaded. -/
theorem ld_x1 (t : Fin cfg0.N) (inb) (l : Fin 4096) :
    View.ld (iblk m c 0 t : Vec Ideal S14x2x4096 .f32) (Rect.unit (k0_off1 (grid0.coords t) 1#32) ![1, 1, 4096] inb) (ix3 0 0 l)
      = argT m c (ix3 (sample t l) (joint t 1) 0) := (ld_at _ _ _ (joint t 1) 0 l (off1_1 t)).trans (blk_t m c t _ _ l)
/-- The first joint's row coordinate, loaded. -/
theorem ld_y0 (t : Fin cfg0.N) (inb) (l : Fin 4096) :
    View.ld (iblk m c 0 t : Vec Ideal S14x2x4096 .f32) (Rect.unit (k0_off2 (grid0.coords t) 0#32) ![1, 1, 4096] inb) (ix3 0 0 l)
      = argT m c (ix3 (sample t l) (joint t 0) 1) := (ld_at _ _ _ (joint t 0) 1 l (off2_0 t)).trans (blk_t m c t _ _ l)
/-- The second joint's row coordinate, loaded. -/
theorem ld_y1 (t : Fin cfg0.N) (inb) (l : Fin 4096) :
    View.ld (iblk m c 0 t : Vec Ideal S14x2x4096 .f32) (Rect.unit (k0_off2 (grid0.coords t) 1#32) ![1, 1, 4096] inb) (ix3 0 0 l)
      = argT m c (ix3 (sample t l) (joint t 1) 1) := (ld_at _ _ _ (joint t 1) 1 l (off2_1 t)).trans (blk_t m c t _ _ l)
/-- The first joint's flag, loaded. -/
theorem ld_v0 (t : Fin cfg0.N) (inb) (l : Fin 4096) :
    View.ld (iblk m c 1 t : Vec Ideal S14x2x4096 .i32) (Rect.unit (k0_off1 (grid0.coords t) 0#32) ![1, 1, 4096] inb) (ix3 0 0 l)
      = argV m c (ix3 (sample t l) (joint t 0) 0) := (ld_at _ _ _ (joint t 0) 0 l (off1_0 t)).trans (blk_v m c t _ _ l)
/-- The second joint's flag, loaded. -/
theorem ld_v1 (t : Fin cfg0.N) (inb) (l : Fin 4096) :
    View.ld (iblk m c 1 t : Vec Ideal S14x2x4096 .i32) (Rect.unit (k0_off1 (grid0.coords t) 1#32) ![1, 1, 4096] inb) (ix3 0 0 l)
      = argV m c (ix3 (sample t l) (joint t 1) 0) := (ld_at _ _ _ (joint t 1) 0 l (off1_1 t)).trans (blk_v m c t _ _ l)

/-- The first joint's predictions, loaded. -/
theorem ld_h0 (t : Fin cfg0.N) (inb) (p k : Fin 14) (l : Fin 4096) :
    View.ld (iblk m c 2 t : Vec Ideal S28x14x4096 .f32) (Rect.unit ![0, 0, 0] ![14, 14, 4096] inb) (ix3 p k l)
      = argH m c (ix4 (sample t l) (joint t 0) p k) := by
  rw [← blk_h m c t 0 p k l, View.ld_apply]
  congr 1
  funext b; apply Fin.ext
  match b with
  | ⟨0, _⟩ => show 0 + 1 * p.val = 14 * 0 + p.val; omega
  | ⟨1, _⟩ => show 0 + 1 * k.val = k.val; omega
  | ⟨2, _⟩ => show 0 + 1 * l.val = l.val; omega
/-- The second joint's predictions, loaded. -/
theorem ld_h1 (t : Fin cfg0.N) (inb) (p k : Fin 14) (l : Fin 4096) :
    View.ld (iblk m c 2 t : Vec Ideal S28x14x4096 .f32) (Rect.unit ![14, 0, 0] ![14, 14, 4096] inb) (ix3 p k l)
      = argH m c (ix4 (sample t l) (joint t 1) p k) := by
  rw [← blk_h m c t 1 p k l, View.ld_apply]
  congr 1
  funext b; apply Fin.ext
  match b with
  | ⟨0, _⟩ => show 14 + 1 * p.val = 14 * 1 + p.val; omega
  | ⟨1, _⟩ => show 0 + 1 * k.val = k.val; omega
  | ⟨2, _⟩ => show 0 + 1 * l.val = l.val; omega

/-- The table as a point loads it. -/
theorem table_eq (t : Fin cfg0.N) : (fun (r : Fin 32) (x : Fin 28) => (iblk m c 3 t : Vec Ideal S32x28 .f32) (ix2 r x)) = tab := by
  funext r x; exact blk_k m c t r x

/-- The total that the first point of a run leaves. -/
theorem sum_A (t : Fin cfg0.N) (h : t.val % 7 = 0) (l : Fin 4096) :
    (outsAt0 m c t.val t.isLt).2.1 (ix3 0 0 l) = sqr (argH m c) (argT m c) (argV m c) (sample t l) (joint t 0)
      + sqr (argH m c) (argT m c) (argV m c) (sample t l) (joint t 1) := by
  rw [Gen.outsAt0_A m c t h]
  frame_open
  simp (disch := decide) only [↓ View.readCov_skip, ↓ View.readCov_cons_toLoadRect, ↓ View.readCov_fill]
  frame_out
  rw [pay21_apply, pay19_apply, zero_add, pay7_apply]
  simp only [pay5_apply, pay17_apply, pay18_apply, pay6_apply, pay4_apply, pay2_apply, pay3_apply, pay8_apply, pay9_apply, pay11_apply]
  rw [ld_x0, ld_y0, ld_v0, ld_x1, ld_y1, ld_v1, table_eq]
  simp only [ld_h0, ld_h1]
  rfl

/-- The total that a later point of a run leaves, from what the point before left. -/
theorem sum_B (t : Fin cfg0.N) (h : ¬t.val % 7 = 0) (l : Fin 4096) :
    (outsAt0 m c t.val t.isLt).2.1 (ix3 0 0 l)
      = (outsAt0 m c (t.val - 1) (Nat.lt_of_le_of_lt (Nat.sub_le _ _) t.isLt)).2.1 (ix3 0 0 l)
        + (sqr (argH m c) (argT m c) (argV m c) (sample t l) (joint t 0)
          + sqr (argH m c) (argT m c) (argV m c) (sample t l) (joint t 1)) := by
  rw [Gen.outsAt0_B m c t h]
  frame_out
  rw [pay21_apply, pay7_apply]
  simp only [pay5_apply, pay17_apply, pay18_apply, pay6_apply, pay4_apply, pay2_apply, pay3_apply, pay8_apply, pay9_apply, pay11_apply]
  rw [ld_x0, ld_y0, ld_v0, ld_x1, ld_y1, ld_v1, table_eq]
  simp only [ld_h0, ld_h1]
  rfl

/-- The count that the first point of a run leaves. -/
theorem cnt_A (t : Fin cfg0.N) (h : t.val % 7 = 0) (l : Fin 4096) :
    (outsAt0 m c t.val t.isLt).2.2 (ix3 0 0 l) = wt (argT m c) (argV m c) (sample t l) (joint t 0)
      + wt (argT m c) (argV m c) (sample t l) (joint t 1) := by
  rw [Gen.outsAt0_A m c t h]
  frame_open
  simp (disch := decide) only [↓ View.readCov_skip, ↓ View.readCov_cons_toLoadRect, ↓ View.readCov_fill]
  frame_out
  rw [pay1_apply, pay20_apply, zero_add]
  simp only [pay5_apply, pay17_apply, pay4_apply, pay8_apply, pay9_apply, pay11_apply]
  rw [ld_x0, ld_y0, ld_v0, ld_x1, ld_y1, ld_v1]
  rfl

/-- The count that a later point of a run leaves, from what the point before left. -/
theorem cnt_B (t : Fin cfg0.N) (h : ¬t.val % 7 = 0) (l : Fin 4096) :
    (outsAt0 m c t.val t.isLt).2.2 (ix3 0 0 l)
      = (outsAt0 m c (t.val - 1) (Nat.lt_of_le_of_lt (Nat.sub_le _ _) t.isLt)).2.2 (ix3 0 0 l)
        + (wt (argT m c) (argV m c) (sample t l) (joint t 0) + wt (argT m c) (argV m c) (sample t l) (joint t 1)) := by
  rw [Gen.outsAt0_B m c t h]
  frame_out
  rw [pay1_apply]
  simp only [pay5_apply, pay17_apply, pay4_apply, pay8_apply, pay9_apply, pay11_apply]
  rw [ld_x0, ld_y0, ld_v0, ld_x1, ld_y1, ld_v1]
  rfl

/-- An index of a half block from the index of the block that it is placed at. -/
theorem half_idx (x : S14x14x4096.Idx) (p k : Fin 14) (l : Fin 4096) (h0 : (x 0).val = p.val) (h1 : (x 1).val = k.val)
    (h2 : (x 2).val = l.val) : x = ix3 p k l := by
  funext b; apply Fin.ext
  match b with
  | ⟨0, _⟩ => exact h0
  | ⟨1, _⟩ => exact h1
  | ⟨2, _⟩ => exact h2

/-- A target read at another spelling of its joint and row. -/
theorem tgt_at {T : FVec Ideal S8192x14x2 .f32} {V : IVec S8192x14x2 32} {b : Fin 8192} {j j' p p' k : Fin 14} (hj : j = j')
    (hp : p = p') : tgt T V b j p k = tgt T V b j' p' k := by rw [hj, hp]

/-- The targets a point leaves: row `r` of its block is row `r % 14` of the map of joint `r / 14` of its pair. -/
theorem map_at (t : Fin cfg0.N) (r : Fin 28) (k : Fin 14) (l : Fin 4096) :
    (outsAt0 m c t.val t.isLt).1 (ix3 r k l)
      = tgt (argT m c) (argV m c) (sample t l) (joint t ⟨r.val / 14, by omega⟩) ⟨r.val % 14, by omega⟩ k := by
  by_cases h : t.val % 7 = 0
  on_goal 1 => rw [Gen.outsAt0_A m c t h]
  on_goal 2 => rw [Gen.outsAt0_B m c t h]
  all_goals
    frame_out
    canon_tiles x hx
    · have h0 : r.val = 14 + (x 0).val := hx0
      rw [half_idx x ⟨r.val % 14, by omega⟩ k l (by show _ = r.val % 14; omega) hx1.symm hx2.symm]
      simp only [pay18_apply, pay8_apply, pay9_apply, pay11_apply]
      rw [ld_x1, ld_y1, ld_v1, table_eq]
      exact tgt_at (congrArg (joint t) (Fin.ext (by show 1 = r.val / 14; omega))) rfl
    · have h0 : r.val = (x 0).val := hx0
      rw [half_idx x ⟨r.val % 14, by omega⟩ k l (by show _ = r.val % 14; omega) hx1.symm hx2.symm]
      simp only [pay6_apply, pay4_apply, pay2_apply, pay3_apply]
      rw [ld_x0, ld_y0, ld_v0, table_eq]
      exact tgt_at (congrArg (joint t) (Fin.ext (by show 0 = r.val / 14; omega))) rfl

end Cert.KernelIdeal.Blocks

end
-- ==== Proof.Arrays.lean ====
/-
  What the kernel's three output arrays hold after its run: the targets, joint and row folded into one axis, and per
  half batch and lane the squared errors and the visible joints, summed over the fourteen joints.
-/
module

public import proofs.«01_k».proof.Proof.Points

@[expose] public section

set_option maxRecDepth 16384

noncomputable section

namespace Cert.KernelIdeal.Blocks

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The sample of lane `l` of half batch `i`. -/
def lane (i : Fin 2) (l : Fin 4096) : Fin 8192 := ⟨4096 * i.val + l.val, by omega⟩

/-- The half batch of a point. -/
def half (t : Fin cfg0.N) : Fin 2 := ⟨t.val / 7, by have := lt_points t; omega⟩

/-- Seven pairs of joints are the fourteen joints. -/
theorem sum_pairs (a : Fin 14 → EReal) :
    ∑ s : Fin 7, (a ⟨2 * s.val, by omega⟩ + a ⟨2 * s.val + 1, by omega⟩) = ∑ j : Fin 14, a j := by
  simp only [Fin.sum_univ_succ, Fin.sum_univ_zero, add_zero]
  simp only [add_assoc]
  rfl

/-- A quantity that a run of seven points starts at its first pair of joints and that each later point adds its own pair
to is, after the last point of the run, the sum over the fourteen joints. -/
theorem sum_run (f : (n : ℕ) → n < cfg0.N → EReal) (g : Fin 8192 → Fin 14 → EReal) (l : Fin 4096)
    (h0 : ∀ t : Fin cfg0.N, t.val % 7 = 0 →
      f t.val t.isLt = g (sample t l) (joint t 0) + g (sample t l) (joint t 1))
    (hs : ∀ t : Fin cfg0.N, ¬t.val % 7 = 0 → f t.val t.isLt = f (t.val - 1) (Nat.lt_of_le_of_lt (Nat.sub_le _ _) t.isLt)
      + (g (sample t l) (joint t 0) + g (sample t l) (joint t 1)))
    (t : Fin cfg0.N) (ht : t.val % 7 = 6) : f t.val t.isLt = ∑ j : Fin 14, g (lane (half t) l) j := by
  have key := Pipeline.eq_sum_of_reset_step f 7 0
    (fun n => if h : n < cfg0.N then g (sample ⟨n, h⟩ l) (joint ⟨n, h⟩ 0) + g (sample ⟨n, h⟩ l) (joint ⟨n, h⟩ 1) else 0)
    (fun t h => by rw [dif_pos t.isLt, zero_add]; exact h0 t h) (fun t h => by rw [dif_pos t.isLt]; exact hs t h) t
  rw [key, ht, zero_add, ← sum_pairs, Finset.sum_range]
  refine Finset.sum_congr rfl fun s _ => ?_
  have hlt := lt_points t
  have hs7 : s.val < 7 := s.isLt
  have hn : 7 * (t.val / 7) + s.val < cfg0.N := by
    refine lt_of_lt_of_eq (b := 14) ?_ Gen.N_0.symm; omega
  rw [dif_pos hn]
  have hb : sample ⟨7 * (t.val / 7) + s.val, hn⟩ l = lane (half t) l := by
    apply Fin.ext
    show 4096 * ((7 * (t.val / 7) + s.val) / 7) + l.val = 4096 * (t.val / 7) + l.val
    omega
  have hj : ∀ o : Fin 2, joint ⟨7 * (t.val / 7) + s.val, hn⟩ o = ⟨2 * s.val + o.val, by omega⟩ := by
    intro o
    apply Fin.ext
    show 2 * ((7 * (t.val / 7) + s.val) % 7) + o.val = 2 * s.val + o.val
    omega
  rw [hb, hj 0, hj 1]
  rfl

/-- The squared errors after the last point of a run. -/
theorem sum_flush (t : Fin cfg0.N) (ht : t.val % 7 = 6) (l : Fin 4096) : (outsAt0 m c t.val t.isLt).2.1 (ix3 0 0 l)
    = ∑ j : Fin 14, sqr (argH m c) (argT m c) (argV m c) (lane (half t) l) j :=
  sum_run (fun n h => (outsAt0 m c n h).2.1 (ix3 0 0 l)) (sqr (argH m c) (argT m c) (argV m c)) l
    (fun t h => sum_A m c t h l) (fun t h => sum_B m c t h l) t ht

/-- The visible joints after the last point of a run. -/
theorem cnt_flush (t : Fin cfg0.N) (ht : t.val % 7 = 6) (l : Fin 4096) : (outsAt0 m c t.val t.isLt).2.2 (ix3 0 0 l)
    = ∑ j : Fin 14, wt (argT m c) (argV m c) (lane (half t) l) j :=
  sum_run (fun n h => (outsAt0 m c n h).2.2 (ix3 0 0 l)) (wt (argT m c) (argV m c)) l
    (fun t h => cnt_A m c t h l) (fun t h => cnt_B m c t h l) t ht

/-- The array of the targets: at row `r` the map of joint `r / 14` at its row `r % 14`. -/
def maps (T : FVec Ideal S8192x14x2 .f32) (V : IVec S8192x14x2 32) : FVec Ideal S196x14x8192 .f32 :=
  fun y => tgt T V (y 2) ⟨(y 0).val / 14, by have := (y 0).isLt; change (y 0).val < 196 at this; omega⟩
    ⟨(y 0).val % 14, by omega⟩ (y 1)

/-- The array of the squared errors: per half batch and lane, the sum over the joints. -/
def sums (H : FVec Ideal S8192x14x14x14 .f32) (T : FVec Ideal S8192x14x2 .f32) (V : IVec S8192x14x2 32) :
    FVec Ideal S2x1x4096 .f32 := fun y => ∑ j : Fin 14, sqr H T V (lane (y 0) (y 2)) j

/-- The array of the visible joints: per half batch and lane, the sum over the joints. -/
def counts (T : FVec Ideal S8192x14x2 .f32) (V : IVec S8192x14x2 32) : FVec Ideal S2x1x4096 .f32 :=
  fun y => ∑ j : Fin 14, wt T V (lane (y 0) (y 2)) j

/-- The place in the targets' array of an index of a point's block. -/
theorem place4 (t : Fin cfg0.N) (r : Fin 28) (k : Fin 14) (l : Fin 4096) : (win0_4.blk t).view.emb (ix3 r k l)
    = (ix3 ⟨28 * (t.val % 7) + r.val, by omega⟩ k (sample t l) : S196x14x8192.Idx) := by
  funext b; apply Fin.ext
  match b with
  | ⟨0, _⟩ =>
    show win0_4.index t 0 * 28 + 1 * r.val = 28 * (t.val % 7) + r.val
    rw [idx4 t]; show t.val % 7 * 28 + 1 * r.val = _; omega
  | ⟨1, _⟩ =>
    show win0_4.index t 1 * 14 + 1 * k.val = k.val
    rw [idx4 t]; show 0 * 14 + 1 * k.val = _; omega
  | ⟨2, _⟩ =>
    show win0_4.index t 2 * 4096 + 1 * l.val = 4096 * (t.val / 7) + l.val
    rw [idx4 t]; show t.val / 7 * 4096 + 1 * l.val = _; omega

/-- The place in the squared errors' array of an index of a point's block. -/
theorem place5 (t : Fin cfg0.N) (l : Fin 4096) :
    (win0_5.blk t).view.emb (ix3 0 0 l) = (ix3 (half t) 0 l : S2x1x4096.Idx) := by
  funext b; apply Fin.ext
  match b with
  | ⟨0, _⟩ =>
    show win0_5.index t 0 * 1 + 1 * 0 = t.val / 7
    rw [idx5 t]; show t.val / 7 * 1 + 1 * 0 = _; omega
  | ⟨1, _⟩ =>
    show win0_5.index t 1 * 1 + 1 * 0 = 0
    rw [idx5 t]; rfl
  | ⟨2, _⟩ =>
    show win0_5.index t 2 * 4096 + 1 * l.val = l.val
    rw [idx5 t]; show 0 * 4096 + 1 * l.val = _; omega

/-- The place in the visible joints' array of an index of a point's block. -/
theorem place6 (t : Fin cfg0.N) (l : Fin 4096) :
    (win0_6.blk t).view.emb (ix3 0 0 l) = (ix3 (half t) 0 l : S2x1x4096.Idx) := by
  funext b; apply Fin.ext
  match b with
  | ⟨0, _⟩ =>
    show win0_6.index t 0 * 1 + 1 * 0 = t.val / 7
    rw [idx6 t]; show t.val / 7 * 1 + 1 * 0 = _; omega
  | ⟨1, _⟩ =>
    show win0_6.index t 1 * 1 + 1 * 0 = 0
    rw [idx6 t]; rfl
  | ⟨2, _⟩ =>
    show win0_6.index t 2 * 4096 + 1 * l.val = l.val
    rw [idx6 t]; show 0 * 4096 + 1 * l.val = _; omega

/-- An index of a block of one row is its lane. -/
theorem row_idx (y : S1x1x4096.Idx) : y = ix3 0 0 (y 2) := by
  funext b; apply Fin.ext
  match b with
  | ⟨0, _⟩ => have h : (y 0).val < 1 := (y 0).isLt; show (y 0).val = 0; omega
  | ⟨1, _⟩ => have h : (y 1).val < 1 := (y 1).isLt; show (y 1).val = 0; omega
  | ⟨2, _⟩ => rfl

/-- An index of a block of the targets' array by its coordinates. -/
theorem block_idx (y : S28x14x4096.Idx) : y = ix3 (y 0) (y 1) (y 2) := by
  funext b; apply Fin.ext
  match b with
  | ⟨0, _⟩ => rfl
  | ⟨1, _⟩ => rfl
  | ⟨2, _⟩ => rfl

/-- The targets' array after the run. -/
theorem arr_maps : (dats m 0 c).arrAt 4 cfg0.N = maps (argT m c) (argV m c) := by
  refine (dats m 0 c).arrAt_eq_of_covers 4 _ (by decide +kernel) fun t hf y => ?_
  blk_simp
  rw [after0_4]
  rw [show y = (ix3 (y 0) (y 1) (y 2) : S28x14x4096.Idx) from block_idx y, place4 t (y 0) (y 1) (y 2),
    map_at m c t (y 0) (y 1) (y 2)]
  have hr : (y 0).val < 28 := (y 0).isLt
  unfold maps
  refine tgt_at (Fin.ext ?_) (Fin.ext ?_)
  · show 2 * (t.val % 7) + (y 0).val / 14 = (28 * (t.val % 7) + (y 0).val) / 14
    omega
  · show (y 0).val % 14 = (28 * (t.val % 7) + (y 0).val) % 14
    omega

/-- The squared errors' array after the run. -/
theorem arr_sums : (dats m 0 c).arrAt 5 cfg0.N = sums (argH m c) (argT m c) (argV m c) := by
  refine (dats m 0 c).arrAt_eq_of_covers 5 _ (by decide +kernel) fun t hf y => ?_
  blk_simp
  rw [after0_5]
  rw [show y = (ix3 0 0 (y 2) : S1x1x4096.Idx) from row_idx y, place5 t (y 2), sum_flush m c t ((flush0_5 t).mp hf) (y 2)]
  rfl

/-- The visible joints' array after the run. -/
theorem arr_counts : (dats m 0 c).arrAt 6 cfg0.N = counts (argT m c) (argV m c) := by
  refine (dats m 0 c).arrAt_eq_of_covers 6 _ (by decide +kernel) fun t hf y => ?_
  blk_simp
  rw [after0_6]
  rw [show y = (ix3 0 0 (y 2) : S1x1x4096.Idx) from row_idx y, place6 t (y 2), cnt_flush m c t ((flush0_6 t).mp hf) (y 2)]
  rfl

end Cert.KernelIdeal.Blocks

end
-- ==== Proof.Totals.lean ====
/-
  Sums over everything: a float sum over every axis, a number of bits set, and the squared error of one joint, which
  the reference masks entry by entry and the kernel masks row by row.
-/
module

public import proofs.«01_k».proof.Proof.Spec
public import Idealize.ShloMosaic.Lib.Tactic
public import Idealize.ShloMosaic.Lib.IndicatorCount
public import Idealize.ShloMosaic.Lib.Pipeline.ValueKit

@[expose] public section

noncomputable section

namespace Cert.Heat

open Idealize.ShloMosaic

/-- A float sum into a result with one entry is the initial value and the sum of every entry. -/
theorem reduce_all {s t : Shape} {axes : List (Fin s.rank)} (h : s.ReducesTo axes t) (ht : t.rank = 0) (x : s.Idx → EReal)
    (init : EReal) (j : t.Idx) : Ideal.hostReduceAdd h x init j = init + ∑ i, x i := by
  unfold Ideal.hostReduceAdd
  rw [Finset.filter_true_of_mem fun i _ => funext fun a => (Fin.elim0 (ht ▸ a : Fin 0))]

/-- The number of bits set, read as a signed word, is the sum of the bits as numbers where the words are wide enough. -/
theorem count_all {ι : Type} (p : ι → BitVec 1) (S : Finset ι) (hS : S.card < 2 ^ 31) :
    (((S.fold IntOp.addi (0#32) fun k => (p k).setWidth 32).toInt : ℝ) : EReal) = ∑ k ∈ S, Scalar.select (p k) 1 0 := by
  classical
  have hc : (S.filter fun k => p k = 1#1).card < 2 ^ 31 := lt_of_le_of_lt (Finset.card_filter_le _ _) hS
  have e : ∀ k, Scalar.select (p k) (1 : EReal) 0 = if p k = 1#1 then 1 else 0 := by
    intro k
    rcases bit_cases (p k) with h | h <;> rw [h] <;> simp [Scalar.select]
  rw [IndicatorCount.fold_addi_setWidth_eq_card, Finset.sum_congr rfl fun k _ => e k, Finset.sum_boole,
    BitVec.toInt_eq_toNat_of_lt (by rw [BitVec.toNat_ofNat]; omega), BitVec.toNat_ofNat, Nat.mod_eq_of_lt (by omega)]
  simp

/-- Row zero is the only row whose number is zero. -/
theorem row_zero : IntOp.cmpi .eq (BitVec.ofNat 32 (0 : Fin 14).val) 0#32 = 1#1 := by decide
/-- No other row's number is zero. -/
theorem row_succ : ∀ p : Fin 13, IntOp.cmpi .eq (BitVec.ofNat 32 p.succ.val) 0#32 = 0#1 := by decide

/-- The squared error of one joint: the reference's sum over the masked differences is the kernel's sum. -/
theorem part_eq (s : BitVec 1) (D : Fin 14 → Fin 14 → EReal) :
    (∑ p : Fin 14, ∑ k : Fin 14,
        Scalar.select (IntOp.andi (~~~s) (IntOp.cmpi .eq (BitVec.ofNat 32 p.val) 0#32)) 0 (D p k)
          * Scalar.select (IntOp.andi (~~~s) (IntOp.cmpi .eq (BitVec.ofNat 32 p.val) 0#32)) 0 (D p k))
      = part (Scalar.select s 1 0) D := by
  unfold part
  rw [Fin.sum_univ_succ, add_comm]
  congr 1
  · refine Finset.sum_congr rfl fun p _ => Finset.sum_congr rfl fun k _ => ?_
    rw [row_succ p]
    rcases bit_cases s with rfl | rfl <;> simp [Scalar.select, IntOp.andi]
  · refine Finset.sum_congr rfl fun k _ => ?_
    rw [row_zero]
    rcases bit_cases s with rfl | rfl <;> simp [Scalar.select, IntOp.andi, Ideal.cmp]

end Cert.Heat

end
-- ==== Proof.Tail.lean ====
/-
  The kernel's two results, read through the host operations that follow its region: the targets' array unfolded into
  joints and rows and brought back to the samples' order, and the two totals summed and divided.
-/
module

public import proofs.«01_k».proof.Proof.Arrays
public import proofs.«01_k».proof.Proof.Totals

@[expose] public section

set_option maxRecDepth 16384

noncomputable section

namespace Cert.KernelIdeal.Blocks

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- What the buffers hold where the region ends. -/
def exit : Valuation τ sig (Elt Ideal) :=
  Pipeline.withArrays (cfgs 0).spec c (V0 m c) fun w => (dats m 0 c).arrAt w (cfgs 0).N

/-- The targets' array where the region ends. -/
theorem exit_maps : exit m c (Proc.devRef .tc main_v4_0) = maps (argT m c) (argV m c) :=
  (Pipeline.withArrays_arr (cfgs 0).spec (by decide) c (V0 m c) (fun w => (dats m 0 c).arrAt w (cfgs 0).N) 4).trans (arr_maps m c)

/-- The squared errors' array where the region ends. -/
theorem exit_sums : exit m c (Proc.devRef .tc main_v4_1) = sums (argH m c) (argT m c) (argV m c) :=
  (Pipeline.withArrays_arr (cfgs 0).spec (by decide) c (V0 m c) (fun w => (dats m 0 c).arrAt w (cfgs 0).N) 5).trans (arr_sums m c)

/-- The visible joints' array where the region ends. -/
theorem exit_counts : exit m c (Proc.devRef .tc main_v4_2) = counts (argT m c) (argV m c) :=
  (Pipeline.withArrays_arr (cfgs 0).spec (by decide) c (V0 m c) (fun w => (dats m 0 c).arrAt w (cfgs 0).N) 6).trans (arr_counts m c)

/-- The targets' array unfolded and transposed, read at an index. -/
theorem unfold_maps (X : FVec Ideal S196x14x8192 .f32) (b : Fin 8192) (j p k : Fin 14) :
    transpose S8192x14x14x14 [3, 0, 1, 2] (shapeCast S14x14x14x8192 X shapeCasts_S196x14x8192_S14x14x14x8192)
      transposes_S14x14x14x8192_S8192x14x14x14_3_0_1_2 (ix4 b j p k) = X (ix3 ⟨j.val * 14 + p.val, by omega⟩ k b) := by
  pointwise

/-- The targets as returned, from whatever the region leaves. -/
theorem tail_maps (X : Valuation τ sig (Elt Ideal)) (A : FVec Ideal S196x14x8192 .f32) (hA : X (Proc.devRef .tc main_v4_0) = A) :
    (StableHlo.after hostOps1 X (Proc.devRef .tc main_v6) : FVec Ideal S8192x14x14x14 .f32)
      = transpose S8192x14x14x14 [3, 0, 1, 2] (shapeCast S14x14x14x8192 A shapeCasts_S196x14x8192_S14x14x14x8192)
          transposes_S14x14x14x8192_S8192x14x14x14_3_0_1_2 := by
  after_results
  rw [hA]
  rfl

/-- The loss as returned, from whatever the region leaves. -/
theorem tail_loss (X : Valuation τ sig (Elt Ideal)) (A B : FVec Ideal S2x1x4096 .f32)
    (hA : X (Proc.devRef .tc main_v4_1) = A) (hB : X (Proc.devRef .tc main_v4_2) = B) :
    (StableHlo.after hostOps1 X (Proc.devRef .tc main_v9) : FVec Ideal S_ .f32)
      = Host.divf (Host.reduceAdd A (constant S_ .f32 0x00000000#32) reducesTo_S2x1x4096_S_d0_1_2 h_S_)
          (Host.reduceAdd B (constant S_ .f32 0x00000000#32) reducesTo_S2x1x4096_S_d0_1_2 h_S_) := by
  after_results
  rw [hA, hB]

/-- The targets as returned, at an index: the target of its sample and joint. -/
theorem out_maps (b : Fin 8192) (j p k : Fin 14) :
    (Pipeline.afterTail₀ cfgs (dats m) 0 (V0 m) [hostOps1] c main_v6 : FVec Ideal S8192x14x14x14 .f32) (ix4 b j p k)
      = tgt (argT m c) (argV m c) b j p k := by
  have e := tail_maps (exit m c) _ (exit_maps m c)
  refine (congrFun (show (Pipeline.afterTail₀ cfgs (dats m) 0 (V0 m) [hostOps1] c main_v6 : FVec Ideal S8192x14x14x14 .f32) = _ from e)
    (ix4 b j p k)).trans ?_
  rw [unfold_maps]
  unfold maps
  refine tgt_at (Fin.ext ?_) (Fin.ext ?_)
  · show (j.val * 14 + p.val) / 14 = j.val
    omega
  · show (j.val * 14 + p.val) % 14 = p.val
    omega

/-- The lanes of the two half batches are the samples. -/
theorem sum_lanes (f : Fin 8192 → EReal) : ∑ y : S2x1x4096.Idx, f (lane (y 0) (y 2)) = ∑ b : Fin 8192, f b := by
  rw [sum_idx3 (n0 := 2) (n1 := 1) (n2 := 4096) (fun y : S2x1x4096.Idx => f (lane (y 0) (y 2)))]
  simp only [Fin.sum_univ_one]
  refine Fin.sum_mul_add_congr (S := 2) (n := 4096) (fun s k hl => ?_) rfl
  congr 1
  apply Fin.ext
  show 4096 * s.val + k.val = s.val * 4096 + k.val
  omega

/-- The loss as returned: every joint's squared error summed, over the number of visible joints. -/
theorem out_loss (i : S_.Idx) :
    (Pipeline.afterTail₀ cfgs (dats m) 0 (V0 m) [hostOps1] c main_v9 : FVec Ideal S_ .f32) i
      = Ideal.div (∑ b : Fin 8192, ∑ j : Fin 14, sqr (argH m c) (argT m c) (argV m c) b j)
          (∑ b : Fin 8192, ∑ j : Fin 14, wt (argT m c) (argV m c) b j) := by
  have e := tail_loss (exit m c) _ _ (exit_sums m c) (exit_counts m c)
  refine (congrFun (show (Pipeline.afterTail₀ cfgs (dats m) 0 (V0 m) [hostOps1] c main_v9 : FVec Ideal S_ .f32) = _ from e) i).trans ?_
  show Ideal.div (Ideal.hostReduceAdd reducesTo_S2x1x4096_S_d0_1_2 (sums (argH m c) (argT m c) (argV m c)) (Ideal.ofBits .f32 0#32) i)
    (Ideal.hostReduceAdd reducesTo_S2x1x4096_S_d0_1_2 (counts (argT m c) (argV m c)) (Ideal.ofBits .f32 0#32) i) = _
  rw [Cert.Heat.reduce_all _ rfl, Cert.Heat.reduce_all _ rfl, Ideal.ofBits_zero_f32, zero_add, zero_add]
  unfold sums counts
  rw [sum_lanes fun b => ∑ j : Fin 14, sqr (argH m c) (argT m c) (argV m c) b j,
    sum_lanes fun b => ∑ j : Fin 14, wt (argT m c) (argV m c) b j]

end Cert.KernelIdeal.Blocks

end
-- ==== Proof.RefTotal.lean ====
/-
  The reference's loss: the squared errors of every joint of every sample, each joint's as the kernel sums them, over
  the number of visible joints.
-/
module

public import proofs.«01_k».proof.Proof.RefValue
public import proofs.«01_k».proof.Proof.Totals

@[expose] public section

set_option maxRecDepth 16384

noncomputable section

namespace Cert.ReferenceIdeal.Stages

open Idealize.ShloMosaic Cert.ReferenceIdeal Cert.ReferenceIdeal.Gen
open Cert.Heat (cell seen refTarget part)

variable (h : FVec Ideal S8192x14x14x14 .f32) (t : FVec Ideal S8192x14x2 .f32) (v : IVec S8192x14x2 32)

/-- Bits counted as the reference counts them, over any array of bits. -/
theorem count_gen (s : IVec S8192x14 1) (i : S_.Idx) :
    sitofp (F := Ideal) .f32 (Host.reduce IntOp.addi (extui 32 s natLt_1_32) (constantI S_ 32 0#32) reducesTo_S8192x14_S_d0_1 h_S_) i
      = ∑ b : Fin 8192, ∑ j : Fin 14, Scalar.select (s (ix2 b j)) (1 : EReal) 0 := by
  have key := Cert.Heat.count_all (fun k : Fin 8192 × Fin 14 => s (ix2 k.1 k.2)) Finset.univ
    (by rw [Finset.card_univ, Fintype.card_prod, Fintype.card_fin, Fintype.card_fin]; norm_num)
  rw [Fintype.sum_prod_type] at key
  rw [← key]
  pointwise
  rfl

/-- The number of visible joints is the sum of the visibility bits. -/
theorem count_apply (i : S_.Idx) :
    count (F := Ideal) t v i = ∑ b : Fin 8192, ∑ j : Fin 14, Scalar.select (bit t v b j) (1 : EReal) 0 := by
  unfold count
  rw [count_gen]
  simp only [vis_apply]

/-- The quotient the reference returns, over any errors and any count. -/
theorem loss_gen (e : FVec Ideal S8192x14x14x14 .f32) (n : FVec Ideal S_ .f32) (i : S_.Idx) :
    Host.divf (Host.reduceAdd (mulf e e) (constant (F := Ideal) S_ .f32 0x00000000#32) reducesTo_S8192x14x14x14_S_d0_1_2_3 h_S_) n i
      = Ideal.div (∑ b : Fin 8192, ∑ j : Fin 14, ∑ p : Fin 14, ∑ k : Fin 14, e (ix4 b j p k) * e (ix4 b j p k)) (n i) := by
  show Ideal.div (Ideal.hostReduceAdd reducesTo_S8192x14x14x14_S_d0_1_2_3 (mulf e e) (Ideal.ofBits .f32 0#32) i) (n i) = _
  rw [Cert.Heat.reduce_all _ rfl, Ideal.ofBits_zero_f32, zero_add]
  exact congrArg (fun z => Ideal.div z (n i)) (sum_idx4 (n0 := 8192) (n1 := 14) (n2 := 14) (n3 := 14) (fun i => e i * e i))

/-- The loss: every joint's squared error summed, over the number of visible joints. -/
theorem loss_apply (i : S_.Idx) : loss h t v i = Ideal.div
    (∑ b : Fin 8192, ∑ j : Fin 14, part (Scalar.select (bit t v b j) 1 0) fun p k =>
      h (ix4 b j p k) - refTarget mat (bit t v b j) (cell (t (ix3 b j 0))) (cell (t (ix3 b j 1))) p k)
    (∑ b : Fin 8192, ∑ j : Fin 14, Scalar.select (bit t v b j) 1 0) := by
  unfold loss
  rw [loss_gen, count_apply]
  refine congrArg (fun z => Ideal.div z _) ?_
  refine Finset.sum_congr rfl fun b _ => Finset.sum_congr rfl fun j _ => ?_
  rw [← Cert.Heat.part_eq]
  refine Finset.sum_congr rfl fun p _ => Finset.sum_congr rfl fun k _ => ?_
  rw [error_apply]

end Cert.ReferenceIdeal.Stages

end
-- ==== Proof.Equation.lean ====
/-
  The equation: the targets and the loss that the kernel returns are those of the reference.
-/
module

public import proofs.«01_k».proof.Proof.Tail
public import proofs.«01_k».proof.Proof.RefTotal
public import proofs.«01_k».proof.Proof.Table

@[expose] public section

set_option maxRecDepth 16384

noncomputable section

namespace Cert.KernelIdeal.Blocks

open Idealize.ShloMosaic Idealize.ShloMosaic.TcCoe Idealize.SL.Sem Cert.KernelIdeal Cert.KernelIdeal.Gen
open Cert.ReferenceIdeal.Stages (mat bit)
open Cert.Heat (cell refTarget tables)

section Pure

variable (H : FVec Ideal S8192x14x14x14 .f32) (T : FVec Ideal S8192x14x2 .f32) (V : IVec S8192x14x2 32)

/-- The kernel's target of a joint is the reference's. -/
theorem tgt_eq (b : Fin 8192) (j p k : Fin 14) :
    tgt T V b j p k = refTarget mat (bit T V b j) (cell (T (ix3 b j 0))) (cell (T (ix3 b j 1))) p k :=
  Cert.Heat.target_eq tables _ _ _ p k

/-- An array that holds the kernel's targets is the reference's. -/
theorem target_eq_of (X : FVec Ideal S8192x14x14x14 .f32) (hX : ∀ b j p k, X (ix4 b j p k) = tgt T V b j p k) :
    X = Cert.ReferenceIdeal.Stages.target T V := by
  funext i
  rw [← ix4_eta (n0 := 8192) (n1 := 14) (n2 := 14) (n3 := 14) i]
  exact (hX _ _ _ _).trans ((tgt_eq T V _ _ _ _).trans (Cert.ReferenceIdeal.Stages.target_apply T V _ _ _ _).symm)

/-- A number that is the kernel's loss is the reference's. -/
theorem loss_eq_of (X : FVec Ideal S_ .f32) (hX : ∀ i, X i = Ideal.div (∑ b : Fin 8192, ∑ j : Fin 14, sqr H T V b j)
    (∑ b : Fin 8192, ∑ j : Fin 14, wt T V b j)) : X = Cert.ReferenceIdeal.Stages.loss H T V := by
  funext i
  rw [hX i, Cert.ReferenceIdeal.Stages.loss_apply]
  unfold sqr
  simp only [tgt_eq]
  rfl

end Pure

variable (m : (ℓ : Loc nD τ sig) → Buf (Elt Ideal) ℓ) (ρ : Dev nD → PrngReg)

/-- The kernel's run: its two results are the reference's stages of its arguments, which end unchanged. -/
theorem run : θ_run defs (onTc (τ := τ) (main (F := Ideal))) ⟨m, fun _ => 0, ρ⟩ fun r => ∀ c : Dev nD,
    r.2.mem ((c.tc : Thread nD τ).loc main_v9) = Cert.ReferenceIdeal.Stages.loss (argH m c) (argT m c) (argV m c)
    ∧ r.2.mem ((c.tc : Thread nD τ).loc main_v6) = Cert.ReferenceIdeal.Stages.target (argT m c) (argV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c =>
    ⟨((h.1 c).2 main_v9 (Pipeline.mem_restRefs_of main_v9 (by decide) (by decide))).trans
        (loss_eq_of (argH m c) (argT m c) (argV m c) _ (out_loss m c)),
      ((h.1 c).2 main_v6 (Pipeline.mem_restRefs_of main_v6 (by decide) (by decide))).trans
        (target_eq_of (argT m c) (argV m c) _ (out_maps m c)),
      h.2 c⟩) (θ_run_and (run_main m ρ) (unchanged m ρ))

end Cert.KernelIdeal.Blocks

end
-- ==== Proof.lean ====
/-
  The five claims, assembled: the kernel, its idealization and the reference run, leave their arguments as they found
  them and every counter at zero; the idealization rewrote nothing; and over the extended reals the kernel's two results,
  the loss and the targets, are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefStages
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged, and has no counter. -/
theorem reference_quiescent : Cert.quiescent_ReferenceIdeal (hReferenceIdeal := Cert.ReferenceIdeal.Gen.facts) :=
  fun m ρ _ => (θ_run _ _ _).mono (fun r h => ⟨fun c => (h c).2.2, sem_eq_zero_of_no_sems rfl r.2⟩)
    (Cert.ReferenceIdeal.Value.run (F := Ideal) m ρ)

/-- From equal arguments the kernel and the reference end with the same loss and the same targets. -/
theorem results_equal : Cert.algebraic_KernelIdeal_ReferenceIdeal (hKernelIdeal := Cert.KernelIdeal.Gen.facts)
    (hReferenceIdeal := Cert.ReferenceIdeal.Gen.facts) := by
  intro m ρ m' ρ' _ hargs
  refine ⟨_, _, Cert.KernelIdeal.Blocks.run m ρ, (θ_run _ _ _).mono (fun r h c => ?_)
    (Cert.ReferenceIdeal.Value.run (F := Ideal) m' ρ')⟩
  obtain ⟨_, e1, e2, e3⟩ := hargs c
  refine ⟨(h c).1.trans ?_, (h c).2.1.trans ?_, (h c).2.2⟩
  · refine (Cert.ReferenceIdeal.Stages.res_loss (F := Ideal) m' c).trans ?_
    rw [e1, e2, e3]
    rfl
  · refine (Cert.ReferenceIdeal.Stages.res_target (F := Ideal) m' c).trans ?_
    rw [e2, e3]
    rfl

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial,
  results_equal⟩

end Cert.Proof

end
